-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S7x128x1024 : Shape := ⟨3, ![7, 128, 1024]⟩
abbrev S6x32x1024 : Shape := ⟨3, ![6, 32, 1024]⟩
abbrev S128x1024 : Shape := ⟨2, ![128, 1024]⟩
abbrev S7x4 : Shape := ⟨2, ![7, 4]⟩
abbrev S6x2 : Shape := ⟨2, ![6, 2]⟩
abbrev S_ : Shape := ⟨0, ![]⟩
abbrev S128x2048 : Shape := ⟨2, ![128, 2048]⟩
abbrev S128x256 : Shape := ⟨2, ![128, 256]⟩
abbrev S1x128x256 : Shape := ⟨3, ![1, 128, 256]⟩
abbrev S1x1 : Shape := ⟨2, ![1, 1]⟩
abbrev S32x512 : Shape := ⟨2, ![32, 512]⟩
abbrev S1x32x512 : Shape := ⟨3, ![1, 32, 512]⟩
abbrev S1x128x1024 : Shape := ⟨3, ![1, 128, 1024]⟩

abbrev nBuf : Space → Nat
  | .hbm => 5
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S2048x1024, .f32⟩
  | .hbm, ⟨4, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S1024x2048, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S7x128x1024, .bf16⟩
  | .local _ .vmem, ⟨10, _⟩ => ⟨S7x128x1024, .bf16⟩
  | .local _ .vmem, ⟨11, _⟩ => ⟨S6x32x1024, .bf16⟩
  | .local _ .vmem, ⟨12, _⟩ => ⟨S6x32x1024, .bf16⟩
  | .local _ .vmem, ⟨13, _⟩ => ⟨S128x1024, .bf16⟩
  | .local _ .vmem, ⟨14, _⟩ => ⟨S7x128x1024, .bf16⟩
  | _, _ => ⟨S1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 2 → Bool
  | ⟨0, _⟩ => false
  | ⟨1, _⟩ => true
  | _ => false

abbrev dmaSemScoped : Fin 141 → Bool
  | ⟨i, _⟩ => dmaSemScopedAt i

abbrev sig : RefSig :=
  (ofTc nBuf bufTy 2 141 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c8_i32_10 : BitVec 32 := 8#32
  let v26 : BitVec 32 := Scalar.addi v20 c8_i32_10
  let c1_i32_11 : BitVec 32 := 1#32
  let v27 : BitVec 32 := Scalar.subi v26 c1_i32_11
  let c8_i32_12 : BitVec 32 := 8#32
  let v28 : BitVec 32 := Scalar.remsi v27 c8_i32_12
  let v29 : BitVec 32 := Scalar.addi v25 v28
  let c1_i32_20 : BitVec 32 := 1#32
  let v40 : BitVec 32 := Scalar.muli v29 c1_i32_20
  let v41 : BitVec 32 := Scalar.addi c0_i32_21 v40
  v41.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_23 : BitVec 32 := 1#32
  let v42 : BitVec 32 := Scalar.muli v24 c1_i32_23
  let v43 : BitVec 32 := Scalar.addi c0_i32_24 v42
  v43.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_26 : BitVec 32 := 1#32
  let v44 : BitVec 32 := Scalar.muli v33 c1_i32_26
  let v45 : BitVec 32 := Scalar.addi c0_i32_27 v44
  v45.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_15 : BitVec 32 := 4#32
  let v34 : BitVec 32 := Scalar.addi v19 c4_i32_15
  let c1_i32_16 : BitVec 32 := 1#32
  let v35 : BitVec 32 := Scalar.subi v34 c1_i32_16
  let c4_i32_17 : BitVec 32 := 4#32
  let v36 : BitVec 32 := Scalar.remsi v35 c4_i32_17
  let c8_i32_18 : BitVec 32 := 8#32
  let v37 : BitVec 32 := Scalar.muli v36 c8_i32_18
  let c8_i32_5 : BitVec 32 := 8#32
  let v20 : BitVec 32 := Scalar.remsi v2 c8_i32_5
  let v38 : BitVec 32 := Scalar.addi v37 v20
  let c1_i32_29 : BitVec 32 := 1#32
  let v46 : BitVec 32 := Scalar.muli v38 c1_i32_29
  let v47 : BitVec 32 := Scalar.addi c0_i32_30 v46
  v47.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c128_i32 : BitVec 32 := 128#32
  let v72 : BitVec 32 := Scalar.muli v20 c128_i32
  let v73 : Index := Scalar.indexCast v72
  let c0_47 : Index := 0#32
  ![v73.toNat, 0]
def k0_off2 (d0 : Dev nD) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v91 : BitVec 32 := Scalar.subi v20 c0_i32_59
  let c8_i32_60 : BitVec 32 := 8#32
  let v92 : BitVec 32 := Scalar.addi v91 c8_i32_60
  let c8_i32_61 : BitVec 32 := 8#32
  let v93 : BitVec 32 := Scalar.remsi v92 c8_i32_61
  let c128_i32_66 : BitVec 32 := 128#32
  let v98 : BitVec 32 := Scalar.muli v93 c128_i32_66
  let v99 : Index := Scalar.indexCast v98
  let c0_67 : Index := 0#32
  ![v99.toNat, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_77 : BitVec 32 := 1#32
  let v106 : BitVec 32 := Scalar.muli v24 c1_i32_77
  let v107 : BitVec 32 := Scalar.addi c0_i32_78 v106
  v107.toNat
def k0_off3 (d0 : Dev nD) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v91 : BitVec 32 := Scalar.subi v20 c0_i32_59
  let c8_i32_60 : BitVec 32 := 8#32
  let v92 : BitVec 32 := Scalar.addi v91 c8_i32_60
  let c8_i32_61 : BitVec 32 := 8#32
  let v93 : BitVec 32 := Scalar.remsi v92 c8_i32_61
  let c128_i32_66 : BitVec 32 := 128#32
  let v98 : BitVec 32 := Scalar.muli v93 c128_i32_66
  let v116 : Index := Scalar.indexCast v98
  let c256 : Index := 256#32
  ![v116.toNat, 256]
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_92 : BitVec 32 := 1#32
  let v123 : BitVec 32 := Scalar.muli v24 c1_i32_92
  let v124 : BitVec 32 := Scalar.addi c0_i32_93 v123
  v124.toNat
def k0_off4 (d0 : Dev nD) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v91 : BitVec 32 := Scalar.subi v20 c0_i32_59
  let c8_i32_60 : BitVec 32 := 8#32
  let v92 : BitVec 32 := Scalar.addi v91 c8_i32_60
  let c8_i32_61 : BitVec 32 := 8#32
  let v93 : BitVec 32 := Scalar.remsi v92 c8_i32_61
  let c128_i32_66 : BitVec 32 := 128#32
  let v98 : BitVec 32 := Scalar.muli v93 c128_i32_66
  let v133 : Index := Scalar.indexCast v98
  let c512 : Index := 512#32
  ![v133.toNat, 512]
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_105 : BitVec 32 := 1#32
  let v140 : BitVec 32 := Scalar.muli v24 c1_i32_105
  let v141 : BitVec 32 := Scalar.addi c0_i32_106 v140
  v141.toNat
def k0_off5 (d0 : Dev nD) (c0_i32_59 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v91 : BitVec 32 := Scalar.subi v20 c0_i32_59
  let c8_i32_60 : BitVec 32 := 8#32
  let v92 : BitVec 32 := Scalar.addi v91 c8_i32_60
  let c8_i32_61 : BitVec 32 := 8#32
  let v93 : BitVec 32 := Scalar.remsi v92 c8_i32_61
  let c128_i32_66 : BitVec 32 := 128#32
  let v98 : BitVec 32 := Scalar.muli v93 c128_i32_66
  let v150 : Index := Scalar.indexCast v98
  let c768 : Index := 768#32
  ![v150.toNat, 768]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_118 : BitVec 32 := 1#32
  let v157 : BitVec 32 := Scalar.muli v24 c1_i32_118
  let v158 : BitVec 32 := Scalar.addi c0_i32_119 v157
  v158.toNat
def k0_off6 (d0 : Dev nD) (c0_i32_62 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v94 : BitVec 32 := Scalar.subi v20 c0_i32_62
  let c1_i32_63 : BitVec 32 := 1#32
  let v95 : BitVec 32 := Scalar.subi v94 c1_i32_63
  let c8_i32_64 : BitVec 32 := 8#32
  let v96 : BitVec 32 := Scalar.addi v95 c8_i32_64
  let c8_i32_65 : BitVec 32 := 8#32
  let v97 : BitVec 32 := Scalar.remsi v96 c8_i32_65
  let c128_i32_123 : BitVec 32 := 128#32
  let v167 : BitVec 32 := Scalar.muli v97 c128_i32_123
  let v168 : Index := Scalar.indexCast v167
  let c0_124 : Index := 0#32
  ![v168.toNat, 0]
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_182 : BitVec 32 := 1#32
  let v224 : BitVec 32 := Scalar.muli v24 c1_i32_182
  let v225 : BitVec 32 := Scalar.addi c0_i32_183 v224
  v225.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_226 : BitVec 32 := 1#32
  let v264 : BitVec 32 := Scalar.muli v24 c1_i32_226
  let v265 : BitVec 32 := Scalar.addi c0_i32_227 v264
  v265.toNat
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_270 : BitVec 32 := 1#32
  let v304 : BitVec 32 := Scalar.muli v24 c1_i32_270
  let v305 : BitVec 32 := Scalar.addi c0_i32_271 v304
  v305.toNat
def k0_dev12 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_314 : BitVec 32 := 1#32
  let v344 : BitVec 32 := Scalar.muli v24 c1_i32_314
  let v345 : BitVec 32 := Scalar.addi c0_i32_315 v344
  v345.toNat
def k0_dev13 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_379 : BitVec 32 := 1#32
  let v411 : BitVec 32 := Scalar.muli v24 c1_i32_379
  let v412 : BitVec 32 := Scalar.addi c0_i32_380 v411
  v412.toNat
def k0_dev14 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_423 : BitVec 32 := 1#32
  let v451 : BitVec 32 := Scalar.muli v24 c1_i32_423
  let v452 : BitVec 32 := Scalar.addi c0_i32_424 v451
  v452.toNat
def k0_dev15 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_467 : BitVec 32 := 1#32
  let v491 : BitVec 32 := Scalar.muli v24 c1_i32_467
  let v492 : BitVec 32 := Scalar.addi c0_i32_468 v491
  v492.toNat
def k0_dev16 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_511 : BitVec 32 := 1#32
  let v531 : BitVec 32 := Scalar.muli v24 c1_i32_511
  let v532 : BitVec 32 := Scalar.addi c0_i32_512 v531
  v532.toNat
def k0_dev17 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_576 : BitVec 32 := 1#32
  let v598 : BitVec 32 := Scalar.muli v24 c1_i32_576
  let v599 : BitVec 32 := Scalar.addi c0_i32_577 v598
  v599.toNat
def k0_dev18 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_620 : BitVec 32 := 1#32
  let v638 : BitVec 32 := Scalar.muli v24 c1_i32_620
  let v639 : BitVec 32 := Scalar.addi c0_i32_621 v638
  v639.toNat
def k0_dev19 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_664 : BitVec 32 := 1#32
  let v678 : BitVec 32 := Scalar.muli v24 c1_i32_664
  let v679 : BitVec 32 := Scalar.addi c0_i32_665 v678
  v679.toNat
def k0_dev20 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_708 : BitVec 32 := 1#32
  let v718 : BitVec 32 := Scalar.muli v24 c1_i32_708
  let v719 : BitVec 32 := Scalar.addi c0_i32_709 v718
  v719.toNat
def k0_dev21 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_773 : BitVec 32 := 1#32
  let v785 : BitVec 32 := Scalar.muli v24 c1_i32_773
  let v786 : BitVec 32 := Scalar.addi c0_i32_774 v785
  v786.toNat
def k0_dev22 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_817 : BitVec 32 := 1#32
  let v825 : BitVec 32 := Scalar.muli v24 c1_i32_817
  let v826 : BitVec 32 := Scalar.addi c0_i32_818 v825
  v826.toNat
def k0_dev23 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_861 : BitVec 32 := 1#32
  let v865 : BitVec 32 := Scalar.muli v24 c1_i32_861
  let v866 : BitVec 32 := Scalar.addi c0_i32_862 v865
  v866.toNat
def k0_dev24 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_905 : BitVec 32 := 1#32
  let v905 : BitVec 32 := Scalar.muli v24 c1_i32_905
  let v906 : BitVec 32 := Scalar.addi c0_i32_906 v905
  v906.toNat
def k0_dev25 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_969 : BitVec 32 := 1#32
  let v972 : BitVec 32 := Scalar.muli v24 c1_i32_969
  let v973 : BitVec 32 := Scalar.addi c0_i32_970 v972
  v973.toNat
def k0_dev26 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1013 : BitVec 32 := 1#32
  let v1012 : BitVec 32 := Scalar.muli v24 c1_i32_1013
  let v1013 : BitVec 32 := Scalar.addi c0_i32_1014 v1012
  v1013.toNat
def k0_dev27 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1057 : BitVec 32 := 1#32
  let v1052 : BitVec 32 := Scalar.muli v24 c1_i32_1057
  let v1053 : BitVec 32 := Scalar.addi c0_i32_1058 v1052
  v1053.toNat
def k0_dev28 (d0 : Dev nD) : Nat :=
  let c0_i32_1102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1101 : BitVec 32 := 1#32
  let v1092 : BitVec 32 := Scalar.muli v24 c1_i32_1101
  let v1093 : BitVec 32 := Scalar.addi c0_i32_1102 v1092
  v1093.toNat
def k0_dev29 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1165 : BitVec 32 := 1#32
  let v1159 : BitVec 32 := Scalar.muli v24 c1_i32_1165
  let v1160 : BitVec 32 := Scalar.addi c0_i32_1166 v1159
  v1160.toNat
def k0_dev30 (d0 : Dev nD) : Nat :=
  let c0_i32_1210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1209 : BitVec 32 := 1#32
  let v1199 : BitVec 32 := Scalar.muli v24 c1_i32_1209
  let v1200 : BitVec 32 := Scalar.addi c0_i32_1210 v1199
  v1200.toNat
def k0_dev31 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1253 : BitVec 32 := 1#32
  let v1239 : BitVec 32 := Scalar.muli v24 c1_i32_1253
  let v1240 : BitVec 32 := Scalar.addi c0_i32_1254 v1239
  v1240.toNat
def k0_dev32 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_1297 : BitVec 32 := 1#32
  let v1279 : BitVec 32 := Scalar.muli v24 c1_i32_1297
  let v1280 : BitVec 32 := Scalar.addi c0_i32_1298 v1279
  v1280.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1317 : BitVec 32 := 1#32
  let v1308 : BitVec 32 := Scalar.addi v20 c1_i32_1317
  let c8_i32_1318 : BitVec 32 := 8#32
  let v1309 : BitVec 32 := Scalar.remsi v1308 c8_i32_1318
  let c128_i32_1319 : BitVec 32 := 128#32
  let v1310 : BitVec 32 := Scalar.muli v1309 c128_i32_1319
  let v1319 : Index := Scalar.indexCast v1310
  let c0_1332 : Index := 0#32
  ![v1319.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1317 : BitVec 32 := 1#32
  let v1308 : BitVec 32 := Scalar.addi v20 c1_i32_1317
  let c8_i32_1318 : BitVec 32 := 8#32
  let v1309 : BitVec 32 := Scalar.remsi v1308 c8_i32_1318
  let c128_i32_1319 : BitVec 32 := 128#32
  let v1310 : BitVec 32 := Scalar.muli v1309 c128_i32_1319
  let v1342 : Index := Scalar.indexCast v1310
  let c256_1360 : Index := 256#32
  ![v1342.toNat, 256]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1317 : BitVec 32 := 1#32
  let v1308 : BitVec 32 := Scalar.addi v20 c1_i32_1317
  let c8_i32_1318 : BitVec 32 := 8#32
  let v1309 : BitVec 32 := Scalar.remsi v1308 c8_i32_1318
  let c128_i32_1319 : BitVec 32 := 128#32
  let v1310 : BitVec 32 := Scalar.muli v1309 c128_i32_1319
  let v1365 : Index := Scalar.indexCast v1310
  let c512_1388 : Index := 512#32
  ![v1365.toNat, 512]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1317 : BitVec 32 := 1#32
  let v1308 : BitVec 32 := Scalar.addi v20 c1_i32_1317
  let c8_i32_1318 : BitVec 32 := 8#32
  let v1309 : BitVec 32 := Scalar.remsi v1308 c8_i32_1318
  let c128_i32_1319 : BitVec 32 := 128#32
  let v1310 : BitVec 32 := Scalar.muli v1309 c128_i32_1319
  let v1388 : Index := Scalar.indexCast v1310
  let c768_1416 : Index := 768#32
  ![v1388.toNat, 768]
def k0_off11 (d0 : Dev nD) (c0_i32_1435 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1432 : BitVec 32 := 1#32
  let v1403 : BitVec 32 := Scalar.addi v20 c1_i32_1432
  let c8_i32_1433 : BitVec 32 := 8#32
  let v1404 : BitVec 32 := Scalar.remsi v1403 c8_i32_1433
  let c128_i32_1434 : BitVec 32 := 128#32
  let v1405 : BitVec 32 := Scalar.muli v1404 c128_i32_1434
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1406 : BitVec 32 := Scalar.subi v19 c0_i32_1435
  let c8_i32_1436 : BitVec 32 := 8#32
  let v1407 : BitVec 32 := Scalar.addi v1406 c8_i32_1436
  let c4_i32_1437 : BitVec 32 := 4#32
  let v1408 : BitVec 32 := Scalar.remsi v1407 c4_i32_1437
  let c32_i32_1438 : BitVec 32 := 32#32
  let v1409 : BitVec 32 := Scalar.muli v1408 c32_i32_1438
  let v1410 : BitVec 32 := Scalar.addi v1405 v1409
  let v1411 : Index := Scalar.indexCast v1410
  let c0_1439 : Index := 0#32
  ![v1411.toNat, 0]
def k0_dev33 (d0 : Dev nD) : Nat :=
  let c0_i32_1450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1449 : BitVec 32 := 1#32
  let v1418 : BitVec 32 := Scalar.muli v33 c1_i32_1449
  let v1419 : BitVec 32 := Scalar.addi c0_i32_1450 v1418
  v1419.toNat
def k0_off12 (d0 : Dev nD) (c0_i32_1435 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1432 : BitVec 32 := 1#32
  let v1403 : BitVec 32 := Scalar.addi v20 c1_i32_1432
  let c8_i32_1433 : BitVec 32 := 8#32
  let v1404 : BitVec 32 := Scalar.remsi v1403 c8_i32_1433
  let c128_i32_1434 : BitVec 32 := 128#32
  let v1405 : BitVec 32 := Scalar.muli v1404 c128_i32_1434
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1406 : BitVec 32 := Scalar.subi v19 c0_i32_1435
  let c8_i32_1436 : BitVec 32 := 8#32
  let v1407 : BitVec 32 := Scalar.addi v1406 c8_i32_1436
  let c4_i32_1437 : BitVec 32 := 4#32
  let v1408 : BitVec 32 := Scalar.remsi v1407 c4_i32_1437
  let c32_i32_1455 : BitVec 32 := 32#32
  let v1428 : BitVec 32 := Scalar.muli v1408 c32_i32_1455
  let v1429 : BitVec 32 := Scalar.addi v1405 v1428
  let v1430 : Index := Scalar.indexCast v1429
  let c512_1456 : Index := 512#32
  ![v1430.toNat, 512]
def k0_dev34 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1466 : BitVec 32 := 1#32
  let v1437 : BitVec 32 := Scalar.muli v33 c1_i32_1466
  let v1438 : BitVec 32 := Scalar.addi c0_i32_1467 v1437
  v1438.toNat
def k0_off13 (d0 : Dev nD) (c0_i32_1487 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1432 : BitVec 32 := 1#32
  let v1403 : BitVec 32 := Scalar.addi v20 c1_i32_1432
  let c8_i32_1433 : BitVec 32 := 8#32
  let v1404 : BitVec 32 := Scalar.remsi v1403 c8_i32_1433
  let c128_i32_1434 : BitVec 32 := 128#32
  let v1405 : BitVec 32 := Scalar.muli v1404 c128_i32_1434
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1458 : BitVec 32 := Scalar.subi v19 c0_i32_1487
  let c1_i32_1488 : BitVec 32 := 1#32
  let v1459 : BitVec 32 := Scalar.subi v1458 c1_i32_1488
  let c8_i32_1489 : BitVec 32 := 8#32
  let v1460 : BitVec 32 := Scalar.addi v1459 c8_i32_1489
  let c4_i32_1490 : BitVec 32 := 4#32
  let v1461 : BitVec 32 := Scalar.remsi v1460 c4_i32_1490
  let c32_i32_1491 : BitVec 32 := 32#32
  let v1462 : BitVec 32 := Scalar.muli v1461 c32_i32_1491
  let v1463 : BitVec 32 := Scalar.addi v1405 v1462
  let v1464 : Index := Scalar.indexCast v1463
  let c0_1492 : Index := 0#32
  ![v1464.toNat, 0]
def k0_dev35 (d0 : Dev nD) : Nat :=
  let c0_i32_1520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1519 : BitVec 32 := 1#32
  let v1488 : BitVec 32 := Scalar.muli v33 c1_i32_1519
  let v1489 : BitVec 32 := Scalar.addi c0_i32_1520 v1488
  v1489.toNat
def k0_off14 (d0 : Dev nD) (c0_i32_1537 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1432 : BitVec 32 := 1#32
  let v1403 : BitVec 32 := Scalar.addi v20 c1_i32_1432
  let c8_i32_1433 : BitVec 32 := 8#32
  let v1404 : BitVec 32 := Scalar.remsi v1403 c8_i32_1433
  let c128_i32_1434 : BitVec 32 := 128#32
  let v1405 : BitVec 32 := Scalar.muli v1404 c128_i32_1434
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1506 : BitVec 32 := Scalar.subi v19 c0_i32_1537
  let c1_i32_1538 : BitVec 32 := 1#32
  let v1507 : BitVec 32 := Scalar.subi v1506 c1_i32_1538
  let c8_i32_1539 : BitVec 32 := 8#32
  let v1508 : BitVec 32 := Scalar.addi v1507 c8_i32_1539
  let c4_i32_1540 : BitVec 32 := 4#32
  let v1509 : BitVec 32 := Scalar.remsi v1508 c4_i32_1540
  let c32_i32_1541 : BitVec 32 := 32#32
  let v1510 : BitVec 32 := Scalar.muli v1509 c32_i32_1541
  let v1511 : BitVec 32 := Scalar.addi v1405 v1510
  let v1512 : Index := Scalar.indexCast v1511
  let c512_1542 : Index := 512#32
  ![v1512.toNat, 512]
def k0_dev36 (d0 : Dev nD) : Nat :=
  let c0_i32_1570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1569 : BitVec 32 := 1#32
  let v1536 : BitVec 32 := Scalar.muli v33 c1_i32_1569
  let v1537 : BitVec 32 := Scalar.addi c0_i32_1570 v1536
  v1537.toNat
def k0_dev37 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1622 : BitVec 32 := 1#32
  let v1587 : BitVec 32 := Scalar.muli v33 c1_i32_1622
  let v1588 : BitVec 32 := Scalar.addi c0_i32_1623 v1587
  v1588.toNat
def k0_dev38 (d0 : Dev nD) : Nat :=
  let c0_i32_1673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1672 : BitVec 32 := 1#32
  let v1635 : BitVec 32 := Scalar.muli v33 c1_i32_1672
  let v1636 : BitVec 32 := Scalar.addi c0_i32_1673 v1635
  v1636.toNat
def k0_dev39 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1725 : BitVec 32 := 1#32
  let v1686 : BitVec 32 := Scalar.muli v33 c1_i32_1725
  let v1687 : BitVec 32 := Scalar.addi c0_i32_1726 v1686
  v1687.toNat
def k0_dev40 (d0 : Dev nD) : Nat :=
  let c0_i32_1776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1775 : BitVec 32 := 1#32
  let v1734 : BitVec 32 := Scalar.muli v33 c1_i32_1775
  let v1735 : BitVec 32 := Scalar.addi c0_i32_1776 v1734
  v1735.toNat
def k0_dev41 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1827 : BitVec 32 := 1#32
  let v1781 : BitVec 32 := Scalar.muli v33 c1_i32_1827
  let v1782 : BitVec 32 := Scalar.addi c0_i32_1828 v1781
  v1782.toNat
def k0_dev42 (d0 : Dev nD) : Nat :=
  let c0_i32_1877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1876 : BitVec 32 := 1#32
  let v1825 : BitVec 32 := Scalar.muli v33 c1_i32_1876
  let v1826 : BitVec 32 := Scalar.addi c0_i32_1877 v1825
  v1826.toNat
def k0_dev43 (d0 : Dev nD) : Nat :=
  let c0_i32_1929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1928 : BitVec 32 := 1#32
  let v1872 : BitVec 32 := Scalar.muli v33 c1_i32_1928
  let v1873 : BitVec 32 := Scalar.addi c0_i32_1929 v1872
  v1873.toNat
def k0_dev44 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_1977 : BitVec 32 := 1#32
  let v1916 : BitVec 32 := Scalar.muli v33 c1_i32_1977
  let v1917 : BitVec 32 := Scalar.addi c0_i32_1978 v1916
  v1917.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c1_i32_1432 : BitVec 32 := 1#32
  let v1403 : BitVec 32 := Scalar.addi v20 c1_i32_1432
  let c8_i32_1433 : BitVec 32 := 8#32
  let v1404 : BitVec 32 := Scalar.remsi v1403 c8_i32_1433
  let c128_i32_1434 : BitVec 32 := 128#32
  let v1405 : BitVec 32 := Scalar.muli v1404 c128_i32_1434
  let v1976 : Index := Scalar.indexCast v1405
  let c0_2047 : Index := 0#32
  ![v1976.toNat, 0]
def k0_dev45 (d0 : Dev nD) : Nat :=
  let c0_i32_2056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2055 : BitVec 32 := 1#32
  let v1983 : BitVec 32 := Scalar.muli v24 c1_i32_2055
  let v1984 : BitVec 32 := Scalar.addi c0_i32_2056 v1983
  v1984.toNat
def k0_dev46 (d0 : Dev nD) : Nat :=
  let c0_i32_2067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2066 : BitVec 32 := 1#32
  let v1992 : BitVec 32 := Scalar.muli v24 c1_i32_2066
  let v1993 : BitVec 32 := Scalar.addi c0_i32_2067 v1992
  v1993.toNat
def k0_dev47 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2077 : BitVec 32 := 1#32
  let v2001 : BitVec 32 := Scalar.muli v24 c1_i32_2077
  let v2002 : BitVec 32 := Scalar.addi c0_i32_2078 v2001
  v2002.toNat
def k0_dev48 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2088 : BitVec 32 := 1#32
  let v2010 : BitVec 32 := Scalar.muli v24 c1_i32_2088
  let v2011 : BitVec 32 := Scalar.addi c0_i32_2089 v2010
  v2011.toNat
def k0_dev49 (d0 : Dev nD) : Nat :=
  let c0_i32_2113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2112 : BitVec 32 := 1#32
  let v2027 : BitVec 32 := Scalar.muli v24 c1_i32_2112
  let v2028 : BitVec 32 := Scalar.addi c0_i32_2113 v2027
  v2028.toNat
def k0_dev50 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2147 : BitVec 32 := 1#32
  let v2051 : BitVec 32 := Scalar.muli v24 c1_i32_2147
  let v2052 : BitVec 32 := Scalar.addi c0_i32_2148 v2051
  v2052.toNat
def k0_dev51 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2182 : BitVec 32 := 1#32
  let v2075 : BitVec 32 := Scalar.muli v24 c1_i32_2182
  let v2076 : BitVec 32 := Scalar.addi c0_i32_2183 v2075
  v2076.toNat
def k0_dev52 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2217 : BitVec 32 := 1#32
  let v2099 : BitVec 32 := Scalar.muli v24 c1_i32_2217
  let v2100 : BitVec 32 := Scalar.addi c0_i32_2218 v2099
  v2100.toNat
def k0_off16 (d0 : Dev nD) (c1_i32_2234 : BitVec 32) (c1_i32_2235 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v2115 : BitVec 32 := Scalar.subi v20 c1_i32_2234
  let v2116 : BitVec 32 := Scalar.addi v2115 c1_i32_2235
  let c8_i32_2236 : BitVec 32 := 8#32
  let v2117 : BitVec 32 := Scalar.addi v2116 c8_i32_2236
  let c8_i32_2237 : BitVec 32 := 8#32
  let v2118 : BitVec 32 := Scalar.remsi v2117 c8_i32_2237
  let c128_i32_2241 : BitVec 32 := 128#32
  let v2122 : BitVec 32 := Scalar.muli v2118 c128_i32_2241
  let v2123 : Index := Scalar.indexCast v2122
  let c0_2242 : Index := 0#32
  ![v2123.toNat, 0]
def k0_off16_at (r : Fin 7) : BitVec 32 × BitVec 32 :=
  if r.val < 3 then
    if r.val < 1 then
      (1#32, 1#32)
    else
      if r.val < 2 then
        (2#32, 1#32)
      else
        (3#32, 1#32)
  else
    if r.val < 5 then
      if r.val < 4 then
        (4#32, 1#32)
      else
        (5#32, 1#32)
    else
      if r.val < 6 then
        (6#32, 1#32)
      else
        (8#32, 2#32)
def k0_dev53 (d0 : Dev nD) : Nat :=
  let c0_i32_2262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2261 : BitVec 32 := 1#32
  let v2133 : BitVec 32 := Scalar.muli v24 c1_i32_2261
  let v2134 : BitVec 32 := Scalar.addi c0_i32_2262 v2133
  v2134.toNat
def k0_dev54 (d0 : Dev nD) : Nat :=
  let c0_i32_2297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2296 : BitVec 32 := 1#32
  let v2157 : BitVec 32 := Scalar.muli v24 c1_i32_2296
  let v2158 : BitVec 32 := Scalar.addi c0_i32_2297 v2157
  v2158.toNat
def k0_dev55 (d0 : Dev nD) : Nat :=
  let c0_i32_2332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2331 : BitVec 32 := 1#32
  let v2181 : BitVec 32 := Scalar.muli v24 c1_i32_2331
  let v2182 : BitVec 32 := Scalar.addi c0_i32_2332 v2181
  v2182.toNat
def k0_dev56 (d0 : Dev nD) : Nat :=
  let c0_i32_2367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2366 : BitVec 32 := 1#32
  let v2205 : BitVec 32 := Scalar.muli v24 c1_i32_2366
  let v2206 : BitVec 32 := Scalar.addi c0_i32_2367 v2205
  v2206.toNat
def k0_dev57 (d0 : Dev nD) : Nat :=
  let c0_i32_2411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2410 : BitVec 32 := 1#32
  let v2239 : BitVec 32 := Scalar.muli v24 c1_i32_2410
  let v2240 : BitVec 32 := Scalar.addi c0_i32_2411 v2239
  v2240.toNat
def k0_dev58 (d0 : Dev nD) : Nat :=
  let c0_i32_2446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2445 : BitVec 32 := 1#32
  let v2263 : BitVec 32 := Scalar.muli v24 c1_i32_2445
  let v2264 : BitVec 32 := Scalar.addi c0_i32_2446 v2263
  v2264.toNat
def k0_dev59 (d0 : Dev nD) : Nat :=
  let c0_i32_2481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2480 : BitVec 32 := 1#32
  let v2287 : BitVec 32 := Scalar.muli v24 c1_i32_2480
  let v2288 : BitVec 32 := Scalar.addi c0_i32_2481 v2287
  v2288.toNat
def k0_dev60 (d0 : Dev nD) : Nat :=
  let c0_i32_2516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2515 : BitVec 32 := 1#32
  let v2311 : BitVec 32 := Scalar.muli v24 c1_i32_2515
  let v2312 : BitVec 32 := Scalar.addi c0_i32_2516 v2311
  v2312.toNat
def k0_dev61 (d0 : Dev nD) : Nat :=
  let c0_i32_2560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2559 : BitVec 32 := 1#32
  let v2345 : BitVec 32 := Scalar.muli v24 c1_i32_2559
  let v2346 : BitVec 32 := Scalar.addi c0_i32_2560 v2345
  v2346.toNat
def k0_dev62 (d0 : Dev nD) : Nat :=
  let c0_i32_2595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2594 : BitVec 32 := 1#32
  let v2369 : BitVec 32 := Scalar.muli v24 c1_i32_2594
  let v2370 : BitVec 32 := Scalar.addi c0_i32_2595 v2369
  v2370.toNat
def k0_dev63 (d0 : Dev nD) : Nat :=
  let c0_i32_2630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2629 : BitVec 32 := 1#32
  let v2393 : BitVec 32 := Scalar.muli v24 c1_i32_2629
  let v2394 : BitVec 32 := Scalar.addi c0_i32_2630 v2393
  v2394.toNat
def k0_dev64 (d0 : Dev nD) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2664 : BitVec 32 := 1#32
  let v2417 : BitVec 32 := Scalar.muli v24 c1_i32_2664
  let v2418 : BitVec 32 := Scalar.addi c0_i32_2665 v2417
  v2418.toNat
def k0_dev65 (d0 : Dev nD) : Nat :=
  let c0_i32_2709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2708 : BitVec 32 := 1#32
  let v2451 : BitVec 32 := Scalar.muli v24 c1_i32_2708
  let v2452 : BitVec 32 := Scalar.addi c0_i32_2709 v2451
  v2452.toNat
def k0_dev66 (d0 : Dev nD) : Nat :=
  let c0_i32_2744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2743 : BitVec 32 := 1#32
  let v2475 : BitVec 32 := Scalar.muli v24 c1_i32_2743
  let v2476 : BitVec 32 := Scalar.addi c0_i32_2744 v2475
  v2476.toNat
def k0_dev67 (d0 : Dev nD) : Nat :=
  let c0_i32_2779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2778 : BitVec 32 := 1#32
  let v2499 : BitVec 32 := Scalar.muli v24 c1_i32_2778
  let v2500 : BitVec 32 := Scalar.addi c0_i32_2779 v2499
  v2500.toNat
def k0_dev68 (d0 : Dev nD) : Nat :=
  let c0_i32_2814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2813 : BitVec 32 := 1#32
  let v2523 : BitVec 32 := Scalar.muli v24 c1_i32_2813
  let v2524 : BitVec 32 := Scalar.addi c0_i32_2814 v2523
  v2524.toNat
def k0_dev69 (d0 : Dev nD) : Nat :=
  let c0_i32_2858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2857 : BitVec 32 := 1#32
  let v2557 : BitVec 32 := Scalar.muli v24 c1_i32_2857
  let v2558 : BitVec 32 := Scalar.addi c0_i32_2858 v2557
  v2558.toNat
def k0_dev70 (d0 : Dev nD) : Nat :=
  let c0_i32_2893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2892 : BitVec 32 := 1#32
  let v2581 : BitVec 32 := Scalar.muli v24 c1_i32_2892
  let v2582 : BitVec 32 := Scalar.addi c0_i32_2893 v2581
  v2582.toNat
def k0_dev71 (d0 : Dev nD) : Nat :=
  let c0_i32_2928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2927 : BitVec 32 := 1#32
  let v2605 : BitVec 32 := Scalar.muli v24 c1_i32_2927
  let v2606 : BitVec 32 := Scalar.addi c0_i32_2928 v2605
  v2606.toNat
def k0_dev72 (d0 : Dev nD) : Nat :=
  let c0_i32_2963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_2962 : BitVec 32 := 1#32
  let v2629 : BitVec 32 := Scalar.muli v24 c1_i32_2962
  let v2630 : BitVec 32 := Scalar.addi c0_i32_2963 v2629
  v2630.toNat
def k0_dev73 (d0 : Dev nD) : Nat :=
  let c0_i32_3091_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c8_i32_10 : BitVec 32 := 8#32
  let v26 : BitVec 32 := Scalar.addi v20 c8_i32_10
  let c1_i32_11 : BitVec 32 := 1#32
  let v27 : BitVec 32 := Scalar.subi v26 c1_i32_11
  let c8_i32_12 : BitVec 32 := 8#32
  let v28 : BitVec 32 := Scalar.remsi v27 c8_i32_12
  let v29 : BitVec 32 := Scalar.addi v25 v28
  let c1_i32_3090_r0 : BitVec 32 := 1#32
  let v2722_r0 : BitVec 32 := Scalar.muli v29 c1_i32_3090_r0
  let v2723_r0 : BitVec 32 := Scalar.addi c0_i32_3091_r0 v2722_r0
  v2723_r0.toNat
def k0_dev74 (d0 : Dev nD) : Nat :=
  let c0_i32_3094_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_3093_r0 : BitVec 32 := 1#32
  let v2724_r0 : BitVec 32 := Scalar.muli v24 c1_i32_3093_r0
  let v2725_r0 : BitVec 32 := Scalar.addi c0_i32_3094_r0 v2724_r0
  v2725_r0.toNat
def k0_dev75 (d0 : Dev nD) : Nat :=
  let c0_i32_3097_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_13 : BitVec 32 := 1#32
  let v30 : BitVec 32 := Scalar.addi v19 c1_i32_13
  let c4_i32 : BitVec 32 := 4#32
  let v31 : BitVec 32 := Scalar.remsi v30 c4_i32
  let c8_i32_14 : BitVec 32 := 8#32
  let v32 : BitVec 32 := Scalar.muli v31 c8_i32_14
  let c8_i32_5 : BitVec 32 := 8#32
  let v20 : BitVec 32 := Scalar.remsi v2 c8_i32_5
  let v33 : BitVec 32 := Scalar.addi v32 v20
  let c1_i32_3096_r0 : BitVec 32 := 1#32
  let v2726_r0 : BitVec 32 := Scalar.muli v33 c1_i32_3096_r0
  let v2727_r0 : BitVec 32 := Scalar.addi c0_i32_3097_r0 v2726_r0
  v2727_r0.toNat
def k0_dev76 (d0 : Dev nD) : Nat :=
  let c0_i32_3100_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_15 : BitVec 32 := 4#32
  let v34 : BitVec 32 := Scalar.addi v19 c4_i32_15
  let c1_i32_16 : BitVec 32 := 1#32
  let v35 : BitVec 32 := Scalar.subi v34 c1_i32_16
  let c4_i32_17 : BitVec 32 := 4#32
  let v36 : BitVec 32 := Scalar.remsi v35 c4_i32_17
  let c8_i32_18 : BitVec 32 := 8#32
  let v37 : BitVec 32 := Scalar.muli v36 c8_i32_18
  let c8_i32_5 : BitVec 32 := 8#32
  let v20 : BitVec 32 := Scalar.remsi v2 c8_i32_5
  let v38 : BitVec 32 := Scalar.addi v37 v20
  let c1_i32_3099_r0 : BitVec 32 := 1#32
  let v2728_r0 : BitVec 32 := Scalar.muli v38 c1_i32_3099_r0
  let v2729_r0 : BitVec 32 := Scalar.addi c0_i32_3100_r0 v2728_r0
  v2729_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1024 : Shape := ⟨2, ![1024, 1024]⟩
abbrev S1024x65536 : Shape := ⟨2, ![1024, 65536]⟩
abbrev S65536x1024 : Shape := ⟨2, ![65536, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x65536, .f32⟩
  | .hbm, ⟨2, _⟩ => ⟨S1024x65536, .f32⟩
  | .hbm, ⟨3, _⟩ => ⟨S65536x1024, .f32⟩
  | .hbm, ⟨4, _⟩ => ⟨S1024x65536, .f32⟩
  | .hbm, ⟨5, _⟩ => ⟨S1024x65536, .f32⟩
  | .hbm, ⟨6, _⟩ => ⟨S1024x65536, .f32⟩
  | .hbm, ⟨7, _⟩ => ⟨S1024x65536, .f32⟩
  | .hbm, ⟨8, _⟩ => ⟨S_, .f32⟩
  | .hbm, ⟨9, _⟩ => ⟨S1024x65536, .f32⟩
  | .hbm, ⟨10, _⟩ => ⟨S1024x65536, .f32⟩
  | .hbm, ⟨11, _⟩ => ⟨S1024x65536, .f32⟩
  | .hbm, ⟨12, _⟩ => ⟨S1024x65536, .f32⟩
  | .hbm, ⟨13, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Steps.lean ====
/-
# `Steps`: the kernel's body as a list of parameterised steps

The printed body is one straight line of some six thousand statements. Here it is written once more as what it is:
a prologue, then three phases, each a run over the transfers of that phase in order. A step is a small program at a
symbolic transfer number, so that a fact about it is proved once and used at every place of the line.
-/
module

public import proofs.«01_k».proof.Proof.Gen.KernelIdeal

@[expose] public section

noncomputable section

namespace Cert.KProof

open Cert.KernelIdeal Cert.KernelIdeal.Gen
open Idealize.ShloMosaic Idealize.SL.Sem

variable {F : FTy → Type} [FloatOps F]

/-! ## The windows of the communication buffers -/

/-- Where transfer `n` of the first (and of the third) phase sits in a seven-slot buffer: slot `n / 4`, columns
    from `256 (n % 4)`. -/
abbrev at7 (n : Fin 28) : Fin 3 → Nat := ![n.val / 4, 0, 256 * (n.val % 4)]
/-- Where transfer `n` of the second phase sits in a six-slot buffer: slot `n / 2`, columns from `512 (n % 2)`. -/
abbrev at6 (n : Fin 12) : Fin 3 → Nat := ![n.val / 2, 0, 512 * (n.val % 2)]
/-- Where quarter `h` sits in the third phase's staging block. -/
abbrev atS (h : Fin 4) : Fin 2 → Nat := ![0, 256 * h.val]
/-- The slot of the third phase's landing buffer that one round fills. -/
abbrev atR (s : Fin 7) : Fin 3 → Nat := ![s.val, 0, 0]
/-- The semaphore of transfer `n` in a seven by four array. -/
abbrev at74 (n : Fin 28) : Fin 2 → Nat := ![n.val / 4, n.val % 4]
/-- The semaphore of transfer `n` in a six by two array. -/
abbrev at62 (n : Fin 12) : Fin 2 → Nat := ![n.val / 2, n.val % 2]

theorem at7_inb : ∀ n : Fin 28, ∀ a, at7 n a + S1x128x256.size a ≤ S7x128x1024.size a := by decide
theorem at6_inb : ∀ n : Fin 12, ∀ a, at6 n a + S1x32x512.size a ≤ S6x32x1024.size a := by decide
theorem atS_inb : ∀ h : Fin 4, ∀ a, atS h a + S128x256.size a ≤ S128x1024.size a := by decide
theorem atR_inb : ∀ s : Fin 7, ∀ a, atR s a + S1x128x1024.size a ≤ S7x128x1024.size a := by decide
theorem at74_inb : ∀ n : Fin 28, ∀ a, at74 n a + S1x1.size a ≤ S7x4.size a := by decide
theorem at62_inb : ∀ n : Fin 12, ∀ a, at62 n a + S1x1.size a ≤ S6x2.size a := by decide

abbrev rect7 (n : Fin 28) : Rect S7x128x1024 := Rect.unit (s := S7x128x1024) (at7 n) S1x128x256.size (at7_inb n)
abbrev rect6 (n : Fin 12) : Rect S6x32x1024 := Rect.unit (s := S6x32x1024) (at6 n) S1x32x512.size (at6_inb n)
abbrev rectS (h : Fin 4) : Rect S128x1024 := Rect.unit (s := S128x1024) (atS h) S128x256.size (atS_inb h)
abbrev rectR (s : Fin 7) : Rect S7x128x1024 := Rect.unit (s := S7x128x1024) (atR s) S1x128x1024.size (atR_inb s)

theorem packed7 : ∀ n, (rect7 n).PackedRows (EltTy.packing .bf16) := by decide
theorem words7 : ∀ n, (rect7 n).WholeWords (EltTy.packing .bf16) := by decide
theorem packed6 : ∀ n, (rect6 n).PackedRows (EltTy.packing .bf16) := by decide
theorem words6 : ∀ n, (rect6 n).WholeWords (EltTy.packing .bf16) := by decide
theorem wordsS : ∀ h, (rectS h).WholeWords (EltTy.packing .bf16) := by decide

/-- A seven-slot buffer's window for transfer `n`, as the copies take it. -/
abbrev win7 (M : Memref sig .tc .vmem S7x128x1024 .bf16) (n : Fin 28) : Memref sig .tc .vmem S128x256 .bf16 :=
  (M.slice (rect7 n) (fun _ => rfl)).squeeze S128x256 squeezes_S1x128x256_S128x256
/-- A six-slot buffer's window for transfer `n`, as the copies take it. -/
abbrev win6 (M : Memref sig .tc .vmem S6x32x1024 .bf16) (n : Fin 12) : Memref sig .tc .vmem S32x512 .bf16 :=
  (M.slice (rect6 n) (fun _ => rfl)).squeeze S32x512 squeezes_S1x32x512_S32x512
/-- The staging block's window for quarter `h`. -/
abbrev winS (M : Memref sig .tc .vmem S128x1024 .bf16) (h : Fin 4) : Memref sig .tc .vmem S128x256 .bf16 :=
  M.slice (rectS h) (fun _ => rfl)
/-- The semaphore of transfer `n` in a seven by four array, and in a six by two one. -/
abbrev sem74 (A : DmaSems sig S7x4) (n : Fin 28) : DmaSem sig :=
  ((A.slice (Rect.unit (s := S7x4) (at74 n) S1x1.size (at74_inb n))).squeeze S_ squeezes_S1x1_S_).sem
abbrev sem62 (A : DmaSems sig S6x2) (n : Fin 12) : DmaSem sig :=
  ((A.slice (Rect.unit (s := S6x2) (at62 n) S1x1.size (at62_inb n))).squeeze S_ squeezes_S1x1_S_).sem

/-! ## The buffers -/

abbrev bX : Memref sig .tc .vmem S1024x1024 .f32 := Memref.whole cc0_stg0_0
abbrev bWg : Memref sig .tc .vmem S1024x2048 .f32 := Memref.whole cc0_stg1_0
abbrev bWu : Memref sig .tc .vmem S1024x2048 .f32 := Memref.whole cc0_stg2_0
abbrev bWd : Memref sig .tc .vmem S2048x1024 .f32 := Memref.whole cc0_stg3_0
abbrev bOut : Memref sig .tc .vmem S1024x1024 .f32 := Memref.whole cc0_stg4_0
abbrev bX16 : Memref sig .tc .vmem S1024x1024 .bf16 := Memref.whole cc0_scratch0
abbrev bWg16 : Memref sig .tc .vmem S1024x2048 .bf16 := Memref.whole cc0_scratch1
abbrev bWu16 : Memref sig .tc .vmem S1024x2048 .bf16 := Memref.whole cc0_scratch2
abbrev bWd16 : Memref sig .tc .vmem S2048x1024 .bf16 := Memref.whole cc0_scratch3
abbrev bS1 : Memref sig .tc .vmem S7x128x1024 .bf16 := Memref.whole cc0_scratch4
abbrev bR1 : Memref sig .tc .vmem S7x128x1024 .bf16 := Memref.whole cc0_scratch5
abbrev bS2 : Memref sig .tc .vmem S6x32x1024 .bf16 := Memref.whole cc0_scratch6
abbrev bR2 : Memref sig .tc .vmem S6x32x1024 .bf16 := Memref.whole cc0_scratch7
abbrev bS3 : Memref sig .tc .vmem S128x1024 .bf16 := Memref.whole cc0_scratch8
abbrev bR3 : Memref sig .tc .vmem S7x128x1024 .bf16 := Memref.whole cc0_scratch9

/-! ## The steps -/

/-- A program of one device's core. -/
abbrev Act (F : FTy → Type) [FloatOps F] : Type → Type _ := Prog (TpuEff nD τ sig (Elt F) Λ₀ .tc)

/-- Round the whole of `src` to `dst`. -/
def castX : Act F PUnit := do
  let v ← Prog.lift (.load bX (Rect.unit (s := S1024x1024) ![0, 0] S1024x1024.size inb_S1024x1024_S1024x1024_0_0).toLoadRect (View.loadsAt_vmem h_S1024x1024))
  let _ ← Prog.lift (.load bX16 (Rect.unit (s := S1024x1024) ![0, 0] S1024x1024.size inb_S1024x1024_S1024x1024_0_0).toLoadRect (View.loadsAt_vmem h_S1024x1024))
  Prog.lift (.store bX16 (Rect.unit (s := S1024x1024) ![0, 0] S1024x1024.size inb_S1024x1024_S1024x1024_0_0) (shapeCast S1024x1024 (truncf .bf16 (shapeCast S1024x1024 v shapeCasts_S1024x1024_S1024x1024) bitsLt_bf16_f32 : FVec F S1024x1024 .bf16) shapeCasts_S1024x1024_S1024x1024) Finset.univ (View.stores_vmem h_S1024x1024 ((Memref.isWhole_whole _).storeExact_slice rfl _ packedbf16_S1024x1024_S1024x1024_0_0) (fun _ => rfl)) (.inl rfl))

def castW (src : Memref sig .tc .vmem S1024x2048 .f32) (dst : Memref sig .tc .vmem S1024x2048 .bf16) (hd : dst.IsWhole) : Act F PUnit := do
  let v ← Prog.lift (.load src (Rect.unit (s := S1024x2048) ![0, 0] S1024x2048.size inb_S1024x2048_S1024x2048_0_0).toLoadRect (View.loadsAt_vmem h_S1024x2048))
  let _ ← Prog.lift (.load dst (Rect.unit (s := S1024x2048) ![0, 0] S1024x2048.size inb_S1024x2048_S1024x2048_0_0).toLoadRect (View.loadsAt_vmem h_S1024x2048))
  Prog.lift (.store dst (Rect.unit (s := S1024x2048) ![0, 0] S1024x2048.size inb_S1024x2048_S1024x2048_0_0) (shapeCast S1024x2048 (truncf .bf16 (shapeCast S1024x2048 v shapeCasts_S1024x2048_S1024x2048) bitsLt_bf16_f32 : FVec F S1024x2048 .bf16) shapeCasts_S1024x2048_S1024x2048) Finset.univ (View.stores_vmem h_S1024x2048 (hd.storeExact_slice rfl _ packedbf16_S1024x2048_S1024x2048_0_0) (fun _ => rfl)) (.inl rfl))

def castD : Act F PUnit := do
  let v ← Prog.lift (.load bWd (Rect.unit (s := S2048x1024) ![0, 0] S2048x1024.size inb_S2048x1024_S2048x1024_0_0).toLoadRect (View.loadsAt_vmem h_S2048x1024))
  let _ ← Prog.lift (.load bWd16 (Rect.unit (s := S2048x1024) ![0, 0] S2048x1024.size inb_S2048x1024_S2048x1024_0_0).toLoadRect (View.loadsAt_vmem h_S2048x1024))
  Prog.lift (.store bWd16 (Rect.unit (s := S2048x1024) ![0, 0] S2048x1024.size inb_S2048x1024_S2048x1024_0_0) (shapeCast S2048x1024 (truncf .bf16 (shapeCast S2048x1024 v shapeCasts_S2048x1024_S2048x1024) bitsLt_bf16_f32 : FVec F S2048x1024 .bf16) shapeCasts_S2048x1024_S2048x1024) Finset.univ (View.stores_vmem h_S2048x1024 ((Memref.isWhole_whole _).storeExact_slice rfl _ packedbf16_S2048x1024_S2048x1024_0_0) (fun _ => rfl)) (.inl rfl))

/-- One block of the local gated product, from the block of `x` and the weights. -/
def blockVal (x : FVec F S128x1024 .bf16) (g u : FVec F S1024x2048 .bf16) (d : FVec F S2048x1024 .bf16) : FVec F S128x1024 .f32 :=
  matmul dot_S128x2048_S2048x1024_S128x1024_1_0_0_1_n_n none
    (truncf .bf16
      (mulf (matmul dot_S128x1024_S1024x2048_S128x2048_1_0_0_1_n_n none x g (constant S128x2048 .f32 0x00000000#32))
        (divf (matmul dot_S128x1024_S1024x2048_S128x2048_1_0_0_1_n_n none x u (constant S128x2048 .f32 0x00000000#32))
          (addf (broadcast S128x2048 (Scalar.ofBits .f32 0x3F800000#32 : F .f32))
            (exp (subf (broadcast S128x2048 (Scalar.ofBits .f32 0x00000000#32 : F .f32))
              (matmul dot_S128x1024_S1024x2048_S128x2048_1_0_0_1_n_n none x u (constant S128x2048 .f32 0x00000000#32))))) : FVec F S128x2048 .f32))
      bitsLt_bf16_f32 : FVec F S128x2048 .bf16) d (constant S128x1024 .f32 0x00000000#32)

/-- Compute the block of rows at `off` into the output. -/
def compute (off : Fin 2 → Nat) (inb : ∀ a, off a + S128x1024.size a ≤ S1024x1024.size a) : Act F PUnit := do
  let x : Vec F S128x1024 .bf16 ← Prog.lift (.load bX16 (Rect.unit (s := S1024x1024) off S128x1024.size inb).toLoadRect (View.loadsAt_vmem h_S128x1024))
  let g : Vec F S1024x2048 .bf16 ← Prog.lift (.load bWg16 (Rect.unit (s := S1024x2048) ![0, 0] S1024x2048.size inb_S1024x2048_S1024x2048_0_0).toLoadRect (View.loadsAt_vmem h_S1024x2048))
  let u : Vec F S1024x2048 .bf16 ← Prog.lift (.load bWu16 (Rect.unit (s := S1024x2048) ![0, 0] S1024x2048.size inb_S1024x2048_S1024x2048_0_0).toLoadRect (View.loadsAt_vmem h_S1024x2048))
  let d : Vec F S2048x1024 .bf16 ← Prog.lift (.load bWd16 (Rect.unit (s := S2048x1024) ![0, 0] S2048x1024.size inb_S2048x1024_S2048x1024_0_0).toLoadRect (View.loadsAt_vmem h_S2048x1024))
  let _ : Vec F S128x1024 .f32 ← Prog.lift (.load bOut (Rect.unit (s := S1024x1024) off S128x1024.size inb).toLoadRect (View.loadsAt_vmem h_S128x1024))
  Prog.lift (.store bOut (Rect.unit (s := S1024x1024) off S128x1024.size inb) (blockVal x g u d) Finset.univ (View.stores_vmem_bits_univ h_S128x1024 rfl) (.inl rfl))

/-- Phase one: round a quarter of the active block into the slot of transfer `n`. -/
def stage1 (n : Fin 28) (off : Fin 2 → Nat) (inb : ∀ a, off a + S128x256.size a ≤ S1024x1024.size a) : Act F PUnit := do
  let v : Vec F S128x256 .f32 ← Prog.lift (.load bOut (Rect.unit (s := S1024x1024) off S128x256.size inb).toLoadRect (View.loadsAt_vmem h_S128x256))
  let _ : Vec F S1x128x256 .bf16 ← Prog.lift (.load bS1 (rect7 n).toLoadRect (View.loadsAt_vmem h_S1x128x256))
  Prog.lift (.store bS1 (rect7 n) (shapeCast S1x128x256 (truncf .bf16 (shapeCast S128x256 v shapeCasts_S128x256_S128x256 : FVec F S128x256 .f32) bitsLt_bf16_f32 : FVec F S128x256 .bf16) shapeCasts_S128x256_S1x128x256) Finset.univ (View.stores_vmem h_S1x128x256 ((Memref.isWhole_whole _).storeExact_slice rfl _ (packed7 n)) (fun _ => rfl)) (.inl rfl))

/-- Phase one: add what transfer `n` brought to its quarter of the active block. -/
def add1 (n : Fin 28) (off : Fin 2 → Nat) (inb : ∀ a, off a + S128x256.size a ≤ S1024x1024.size a) : Act F PUnit := do
  let v : Vec F S128x256 .f32 ← Prog.lift (.load bOut (Rect.unit (s := S1024x1024) off S128x256.size inb).toLoadRect (View.loadsAt_vmem h_S128x256))
  let r : Vec F S1x128x256 .bf16 ← Prog.lift (.load bR1 (rect7 n).toLoadRect (View.loadsAt_vmem h_S1x128x256))
  let _ : Vec F S128x256 .f32 ← Prog.lift (.load bOut (Rect.unit (s := S1024x1024) off S128x256.size inb).toLoadRect (View.loadsAt_vmem h_S128x256))
  Prog.lift (.store bOut (Rect.unit (s := S1024x1024) off S128x256.size inb) (addf (shapeCast S128x256 v shapeCasts_S128x256_S128x256 : FVec F S128x256 .f32) (extf .f32 (shapeCast S128x256 r shapeCasts_S1x128x256_S128x256 : FVec F S128x256 .bf16) bitsLt_bf16_f32)) Finset.univ (View.stores_vmem_bits_univ h_S128x256 rfl) (.inl rfl))

def send1 (dst : Dev nD) (n : Fin 28) : Act F PUnit :=
  Prog.lift (.enqueueDma (win7 bS1 n) (.remote (Dev.tc dst) (win7 bR1 n) (.dma (sem74 cc0_scratch10 n))) (.dma (sem74 cc0_scratch11 n)) (((Memref.isWhole_whole _).wordExact_slice rfl _ (words7 n)).reshape _ _) (((Memref.isWhole_whole _).wordExact_slice rfl _ (words7 n)).reshape _ _) ⟨⟨rfl, Or.inl rfl⟩, trivial⟩)
def waitR1 (n : Fin 28) : Act F PUnit :=
  Prog.lift (.waitDma2 (sem74 cc0_scratch11 n) (win7 bS1 n) (win7 bR1 n) (((Memref.isWhole_whole _).wordExact_slice rfl _ (words7 n)).reshape _ _) (((Memref.isWhole_whole _).wordExact_slice rfl _ (words7 n)).reshape _ _))
def waitS1 (n : Fin 28) : Act F PUnit :=
  Prog.lift (.waitDma2 (sem74 cc0_scratch10 n) (win7 bR1 n) (win7 bS1 n) (((Memref.isWhole_whole _).wordExact_slice rfl _ (words7 n)).reshape _ _) (((Memref.isWhole_whole _).wordExact_slice rfl _ (words7 n)).reshape _ _))

/-- Phase two: round half of a sub-block into the slot of transfer `n`. -/
def stage2 (n : Fin 12) (off : Fin 2 → Nat) (inb : ∀ a, off a + S32x512.size a ≤ S1024x1024.size a) : Act F PUnit := do
  let v : Vec F S32x512 .f32 ← Prog.lift (.load bOut (Rect.unit (s := S1024x1024) off S32x512.size inb).toLoadRect (View.loadsAt_vmem h_S32x512))
  let _ : Vec F S1x32x512 .bf16 ← Prog.lift (.load bS2 (rect6 n).toLoadRect (View.loadsAt_vmem h_S1x32x512))
  Prog.lift (.store bS2 (rect6 n) (shapeCast S1x32x512 (truncf .bf16 (shapeCast S32x512 v shapeCasts_S32x512_S32x512 : FVec F S32x512 .f32) bitsLt_bf16_f32 : FVec F S32x512 .bf16) shapeCasts_S32x512_S1x32x512) Finset.univ (View.stores_vmem h_S1x32x512 ((Memref.isWhole_whole _).storeExact_slice rfl _ (packed6 n)) (fun _ => rfl)) (.inl rfl))

/-- Phase two, first three rounds: add what transfer `n` brought. -/
def add2 (n : Fin 12) (off : Fin 2 → Nat) (inb : ∀ a, off a + S32x512.size a ≤ S1024x1024.size a) : Act F PUnit := do
  let v : Vec F S32x512 .f32 ← Prog.lift (.load bOut (Rect.unit (s := S1024x1024) off S32x512.size inb).toLoadRect (View.loadsAt_vmem h_S32x512))
  let r : Vec F S1x32x512 .bf16 ← Prog.lift (.load bR2 (rect6 n).toLoadRect (View.loadsAt_vmem h_S1x32x512))
  let _ : Vec F S32x512 .f32 ← Prog.lift (.load bOut (Rect.unit (s := S1024x1024) off S32x512.size inb).toLoadRect (View.loadsAt_vmem h_S32x512))
  Prog.lift (.store bOut (Rect.unit (s := S1024x1024) off S32x512.size inb) (addf (shapeCast S32x512 v shapeCasts_S32x512_S32x512 : FVec F S32x512 .f32) (extf .f32 (shapeCast S32x512 r shapeCasts_S1x32x512_S32x512 : FVec F S32x512 .bf16) bitsLt_bf16_f32)) Finset.univ (View.stores_vmem_bits_univ h_S32x512 rfl) (.inl rfl))

/-- Phase two, last three rounds: put down what transfer `n` brought. -/
def put2 (n : Fin 12) (off : Fin 2 → Nat) (inb : ∀ a, off a + S32x512.size a ≤ S1024x1024.size a) : Act F PUnit := do
  let r : Vec F S1x32x512 .bf16 ← Prog.lift (.load bR2 (rect6 n).toLoadRect (View.loadsAt_vmem h_S1x32x512))
  let _ : Vec F S32x512 .f32 ← Prog.lift (.load bOut (Rect.unit (s := S1024x1024) off S32x512.size inb).toLoadRect (View.loadsAt_vmem h_S32x512))
  Prog.lift (.store bOut (Rect.unit (s := S1024x1024) off S32x512.size inb) (extf .f32 (shapeCast S32x512 r shapeCasts_S1x32x512_S32x512 : FVec F S32x512 .bf16) bitsLt_bf16_f32 : FVec F S32x512 .f32) Finset.univ (View.stores_vmem_bits_univ h_S32x512 rfl) (.inl rfl))

def send2 (dst : Dev nD) (n : Fin 12) : Act F PUnit :=
  Prog.lift (.enqueueDma (win6 bS2 n) (.remote (Dev.tc dst) (win6 bR2 n) (.dma (sem62 cc0_scratch12 n))) (.dma (sem62 cc0_scratch13 n)) (((Memref.isWhole_whole _).wordExact_slice rfl _ (words6 n)).reshape _ _) (((Memref.isWhole_whole _).wordExact_slice rfl _ (words6 n)).reshape _ _) ⟨⟨rfl, Or.inl rfl⟩, trivial⟩)
def waitR2 (n : Fin 12) : Act F PUnit :=
  Prog.lift (.waitDma2 (sem62 cc0_scratch13 n) (win6 bS2 n) (win6 bR2 n) (((Memref.isWhole_whole _).wordExact_slice rfl _ (words6 n)).reshape _ _) (((Memref.isWhole_whole _).wordExact_slice rfl _ (words6 n)).reshape _ _))
def waitS2 (n : Fin 12) : Act F PUnit :=
  Prog.lift (.waitDma2 (sem62 cc0_scratch12 n) (win6 bR2 n) (win6 bS2 n) (((Memref.isWhole_whole _).wordExact_slice rfl _ (words6 n)).reshape _ _) (((Memref.isWhole_whole _).wordExact_slice rfl _ (words6 n)).reshape _ _))

/-- Phase three: round the finished block into the staging block. -/
def stage3 (off : Fin 2 → Nat) (inb : ∀ a, off a + S128x1024.size a ≤ S1024x1024.size a) : Act F PUnit := do
  let v : Vec F S128x1024 .f32 ← Prog.lift (.load bOut (Rect.unit (s := S1024x1024) off S128x1024.size inb).toLoadRect (View.loadsAt_vmem h_S128x1024))
  let _ : Vec F S128x1024 .bf16 ← Prog.lift (.load bS3 (Rect.unit (s := S128x1024) ![0, 0] S128x1024.size inb_S128x1024_S128x1024_0_0).toLoadRect (View.loadsAt_vmem h_S128x1024))
  Prog.lift (.store bS3 (Rect.unit (s := S128x1024) ![0, 0] S128x1024.size inb_S128x1024_S128x1024_0_0) (shapeCast S128x1024 (truncf .bf16 (shapeCast S128x1024 v shapeCasts_S128x1024_S128x1024 : FVec F S128x1024 .f32) bitsLt_bf16_f32 : FVec F S128x1024 .bf16) shapeCasts_S128x1024_S128x1024) Finset.univ (View.stores_vmem h_S128x1024 ((Memref.isWhole_whole _).storeExact_slice rfl _ packedbf16_S128x1024_S128x1024_0_0) (fun _ => rfl)) (.inl rfl))

/-- Phase three: the first round sends the staging block's quarters. -/
def send3a (dst : Dev nD) (h : Fin 4) (n : Fin 28) : Act F PUnit :=
  Prog.lift (.enqueueDma (winS bS3 h) (.remote (Dev.tc dst) (win7 bR3 n) (.dma (sem74 cc0_scratch14 n))) (.dma (sem74 cc0_scratch15 n)) ((Memref.isWhole_whole _).wordExact_slice rfl _ (wordsS h)) (((Memref.isWhole_whole _).wordExact_slice rfl _ (words7 n)).reshape _ _) ⟨⟨rfl, Or.inl rfl⟩, trivial⟩)
/-- Phase three: a later round passes on what transfer `m` brought. -/
def send3b (dst : Dev nD) (m n : Fin 28) : Act F PUnit :=
  Prog.lift (.enqueueDma (win7 bR3 m) (.remote (Dev.tc dst) (win7 bR3 n) (.dma (sem74 cc0_scratch14 n))) (.dma (sem74 cc0_scratch15 n)) (((Memref.isWhole_whole _).wordExact_slice rfl _ (words7 m)).reshape _ _) (((Memref.isWhole_whole _).wordExact_slice rfl _ (words7 n)).reshape _ _) ⟨⟨rfl, Or.inl rfl⟩, trivial⟩)
def waitR3 (n : Fin 28) : Act F PUnit :=
  Prog.lift (.waitDma2 (sem74 cc0_scratch15 n) (win7 bR3 n) (win7 bR3 n) (((Memref.isWhole_whole _).wordExact_slice rfl _ (words7 n)).reshape _ _) (((Memref.isWhole_whole _).wordExact_slice rfl _ (words7 n)).reshape _ _))
def waitS3 (n : Fin 28) : Act F PUnit :=
  Prog.lift (.waitDma2 (sem74 cc0_scratch14 n) (win7 bR3 n) (win7 bR3 n) (((Memref.isWhole_whole _).wordExact_slice rfl _ (words7 n)).reshape _ _) (((Memref.isWhole_whole _).wordExact_slice rfl _ (words7 n)).reshape _ _))

/-- Phase three: put the block that round `s` brought into the output. -/
def put3 (s : Fin 7) (off : Fin 2 → Nat) (inb : ∀ a, off a + S128x1024.size a ≤ S1024x1024.size a) : Act F PUnit := do
  let r : Vec F S1x128x1024 .bf16 ← Prog.lift (.load bR3 (rectR s).toLoadRect (View.loadsAt_vmem h_S1x128x1024))
  let _ : Vec F S128x1024 .f32 ← Prog.lift (.load bOut (Rect.unit (s := S1024x1024) off S128x1024.size inb).toLoadRect (View.loadsAt_vmem h_S128x1024))
  Prog.lift (.store bOut (Rect.unit (s := S1024x1024) off S128x1024.size inb) (extf .f32 (shapeCast S128x1024 r shapeCasts_S1x128x1024_S128x1024 : FVec F S128x1024 .bf16) bitsLt_bf16_f32 : FVec F S128x1024 .f32) Finset.univ (View.stores_vmem_bits_univ h_S128x1024 rfl) (.inl rfl))

/-! ## The offsets the steps run at -/

/-- The devices a device signals: left and right on its ring, up and down between planes. -/
abbrev devL (c : Dev nD) : Dev nD := ⟨k0_dev1 c, k0_dev1_lt c⟩
abbrev devR (c : Dev nD) : Dev nD := ⟨k0_dev2 c, k0_dev2_lt c⟩
abbrev devU (c : Dev nD) : Dev nD := ⟨k0_dev3 c, k0_dev3_lt c⟩
abbrev devD (c : Dev nD) : Dev nD := ⟨k0_dev4 c, k0_dev4_lt c⟩

/-- Phase one's quarter of the block that round `n / 4` sends. -/
def off1 (c : Dev nD) (n : Fin 28) : Fin 2 → Nat :=
  if n.val % 4 = 0 then k0_off2 c (BitVec.ofNat 32 (n.val / 4))
  else if n.val % 4 = 1 then k0_off3 c (BitVec.ofNat 32 (n.val / 4))
  else if n.val % 4 = 2 then k0_off4 c (BitVec.ofNat 32 (n.val / 4))
  else k0_off5 c (BitVec.ofNat 32 (n.val / 4))

/-- Phase one's quarter of the last block. -/
def off1d (c : Dev nD) (h : Fin 4) : Fin 2 → Nat :=
  if h.val = 0 then k0_off7 c else if h.val = 1 then k0_off8 c else if h.val = 2 then k0_off9 c else k0_off10 c

theorem off1_inb (c : Dev nD) (n : Fin 28) : ∀ a, off1 c n a + S128x256.size a ≤ S1024x1024.size a := by
  have hs : n.val / 4 < 7 := by omega
  unfold off1
  split_ifs
  · exact k0_off2_inb c ⟨_, hs⟩
  · exact k0_off3_inb c ⟨_, hs⟩
  · exact k0_off4_inb c ⟨_, hs⟩
  · exact k0_off5_inb c ⟨_, hs⟩

theorem off1d_inb (c : Dev nD) (h : Fin 4) : ∀ a, off1d c h a + S128x256.size a ≤ S1024x1024.size a := by
  unfold off1d
  split_ifs
  · exact k0_off7_inb c
  · exact k0_off8_inb c
  · exact k0_off9_inb c
  · exact k0_off10_inb c

/-- Phase two's half of the sub-block that round `n / 2` sends, and of the one it fills. -/
def off2 (c : Dev nD) (n : Fin 12) : Fin 2 → Nat :=
  if n.val % 2 = 0 then k0_off11 c (BitVec.ofNat 32 (n.val / 2)) else k0_off12 c (BitVec.ofNat 32 (n.val / 2))
def off2r (c : Dev nD) (n : Fin 12) : Fin 2 → Nat :=
  if n.val % 2 = 0 then k0_off13 c (BitVec.ofNat 32 (n.val / 2)) else k0_off14 c (BitVec.ofNat 32 (n.val / 2))

theorem off2_inb (c : Dev nD) (n : Fin 12) : ∀ a, off2 c n a + S32x512.size a ≤ S1024x1024.size a := by
  have hs : n.val / 2 < 6 := by omega
  unfold off2
  split_ifs
  · exact k0_off11_inb c ⟨_, hs⟩
  · exact k0_off12_inb c ⟨_, hs⟩
theorem off2r_inb (c : Dev nD) (n : Fin 12) : ∀ a, off2r c n a + S32x512.size a ≤ S1024x1024.size a := by
  have hs : n.val / 2 < 6 := by omega
  unfold off2r
  split_ifs
  · exact k0_off13_inb c ⟨_, hs⟩
  · exact k0_off14_inb c ⟨_, hs⟩

/-! ## The phases -/

/-- A list of programs, one after the other. -/
def run : List (Act F PUnit) → Act F PUnit
  | [] => pure ⟨⟩
  | p :: ps => p >>= fun _ => run ps

/-- Entry: one count to each of the four neighbours' barrier semaphore, and the wait for theirs. -/
def entry (c : Dev nD) : Act F PUnit := do
  semSignalWord (devL c) (SemArray.scalar (sig.barrier 0 rfl) : Sems sig S_).sem 1#32
  semSignalWord (devR c) (SemArray.scalar (sig.barrier 0 rfl) : Sems sig S_).sem 1#32
  semSignalWord (devU c) (SemArray.scalar (sig.barrier 0 rfl) : Sems sig S_).sem 1#32
  semSignalWord (devD c) (SemArray.scalar (sig.barrier 0 rfl) : Sems sig S_).sem 1#32
  semWaitWord (SemArray.scalar (sig.barrier 0 rfl) : Sems sig S_).sem 4#32

/-- Exit: the same on the kernel's own semaphore. -/
def leave (c : Dev nD) : Act F PUnit := do
  semSignalWord (devL c) cc0_scoped0.sem 1#32
  semSignalWord (devR c) cc0_scoped0.sem 1#32
  semSignalWord (devU c) cc0_scoped0.sem 1#32
  semSignalWord (devD c) cc0_scoped0.sem 1#32
  semWaitWord cc0_scoped0.sem 4#32

/-- Phase one, first round: quarter `h` of the device's own block starts. -/
def p1first (c : Dev nD) (h : Fin 4) : Act F PUnit := do
  stage1 ⟨h.val, by omega⟩ (off1 c ⟨h.val, by omega⟩) (off1_inb c _)
  send1 (devR c) ⟨h.val, by omega⟩

/-- Phase one, a later round: take in transfer `k`, pass on transfer `k + 4`. -/
def p1next (c : Dev nD) (k : Fin 24) : Act F PUnit := do
  waitR1 ⟨k.val, by omega⟩
  add1 ⟨k.val, by omega⟩ (off1 c ⟨k.val + 4, by omega⟩) (off1_inb c _)
  waitS1 ⟨k.val, by omega⟩
  stage1 ⟨k.val + 4, by omega⟩ (off1 c ⟨k.val + 4, by omega⟩) (off1_inb c _)
  send1 (devR c) ⟨k.val + 4, by omega⟩

/-- Phase one: the transfers still under way at the end. -/
def p1last (c : Dev nD) (h : Fin 4) : Act F PUnit := do
  waitR1 ⟨24 + h.val, by omega⟩
  add1 ⟨24 + h.val, by omega⟩ (off1d c h) (off1d_inb c h)
  waitS1 ⟨24 + h.val, by omega⟩

/-- The block computed after round `s` of phase one. -/
def nextBlock (c : Dev nD) (s : Fin 7) : Act F PUnit := compute (k0_off6 c (BitVec.ofNat 32 s.val)) (k0_off6_inb c s)

/-- A round of phase one after the first. -/
def p1round (c : Dev nD) (s : Fin 6) : Act F PUnit := do
  p1next c ⟨4 * s.val, by omega⟩
  p1next c ⟨4 * s.val + 1, by omega⟩
  p1next c ⟨4 * s.val + 2, by omega⟩
  p1next c ⟨4 * s.val + 3, by omega⟩
  nextBlock c ⟨s.val + 1, by omega⟩

/-- Phase two: half `h` of the first sub-block starts. -/
def p2first (c : Dev nD) (h : Fin 2) : Act F PUnit := do
  stage2 ⟨h.val, by omega⟩ (off2 c ⟨h.val, by omega⟩) (off2_inb c _)
  send2 (devU c) ⟨h.val, by omega⟩

/-- Phase two: what comes in is added for three rounds, and put down for the three after them. -/
def take2 (c : Dev nD) (n : Fin 12) : Act F PUnit :=
  if n.val < 6 then add2 n (off2r c n) (off2r_inb c n) else put2 n (off2r c n) (off2r_inb c n)

def p2next (c : Dev nD) (k : Fin 10) : Act F PUnit := do
  waitR2 ⟨k.val, by omega⟩
  take2 c ⟨k.val, by omega⟩
  waitS2 ⟨k.val, by omega⟩
  stage2 ⟨k.val + 2, by omega⟩ (off2 c ⟨k.val + 2, by omega⟩) (off2_inb c _)
  send2 (devU c) ⟨k.val + 2, by omega⟩

def p2last (c : Dev nD) (h : Fin 2) : Act F PUnit := do
  waitR2 ⟨10 + h.val, by omega⟩
  take2 c ⟨10 + h.val, by omega⟩
  waitS2 ⟨10 + h.val, by omega⟩

def p3next (c : Dev nD) (k : Fin 24) : Act F PUnit := do
  waitR3 ⟨k.val, by omega⟩
  send3b (devR c) ⟨k.val, by omega⟩ ⟨k.val + 4, by omega⟩
  waitS3 ⟨k.val, by omega⟩

def p3last (c : Dev nD) (h : Fin 4) : Act F PUnit := do
  waitR3 ⟨24 + h.val, by omega⟩
  waitS3 ⟨24 + h.val, by omega⟩

def gather (c : Dev nD) (s : Fin 7) : Act F PUnit :=
  put3 s (k0_off16 c (k0_off16_at s).1 (k0_off16_at s).2) (k0_off16_inb c s)

def p3round (c : Dev nD) (s : Fin 6) : Act F PUnit := do
  p3next c ⟨4 * s.val, by omega⟩
  p3next c ⟨4 * s.val + 1, by omega⟩
  p3next c ⟨4 * s.val + 2, by omega⟩
  p3next c ⟨4 * s.val + 3, by omega⟩
  gather c ⟨s.val, by omega⟩

def phase0 (c : Dev nD) : Act F PUnit := do
  castX
  castW bWg bWg16 (Memref.isWhole_whole _)
  castW bWu bWu16 (Memref.isWhole_whole _)
  castD
  compute (k0_off1 c) (k0_off1_inb c)

def phase1 (c : Dev nD) : Act F PUnit := do
  p1first c 0
  p1first c 1
  p1first c 2
  p1first c 3
  nextBlock c 0
  p1round c 0
  p1round c 1
  p1round c 2
  p1round c 3
  p1round c 4
  p1round c 5
  p1last c 0
  p1last c 1
  p1last c 2
  p1last c 3

def phase2 (c : Dev nD) : Act F PUnit := do
  p2first c 0
  p2first c 1
  p2next c 0
  p2next c 1
  p2next c 2
  p2next c 3
  p2next c 4
  p2next c 5
  p2next c 6
  p2next c 7
  p2next c 8
  p2next c 9
  p2last c 0
  p2last c 1

def phase3 (c : Dev nD) : Act F PUnit := do
  stage3 (k0_off15 c) (k0_off15_inb c)
  send3a (devR c) 0 0
  send3a (devR c) 1 1
  send3a (devR c) 2 2
  send3a (devR c) 3 3
  p3round c 0
  p3round c 1
  p3round c 2
  p3round c 3
  p3round c 4
  p3round c 5
  p3last c 0
  p3last c 1
  p3last c 2
  p3last c 3
  gather c 6

/-- The body of the kernel on device `c`. -/
def whole (c : Dev nD) : Act F PUnit := do
  entry c
  phase0 c
  phase1 c
  phase2 c
  phase3 c
  leave c

end Cert.KProof
-- ==== Proof.Protocol.lean ====
/-
# `Protocol`: who signals whom, with what, and what a device owes

The mesh is four planes of an eight-device ring. A device signals its four neighbours at entry and at exit, and in
between starts sixty-eight transfers: twenty-eight along the ring, twelve across the planes, twenty-eight along the
ring. Each semaphore that one of these uses is a cell of one round. The entry counts hand over the landing windows; a
transfer's receive cell hands over the landed window, its send cell the source window back.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The neighbours -/

theorem lt32 (c : Dev nD) : c.val < 32 := c.isLt

def left (c : Dev nD) : Dev nD := ⟨8 * (c.val / 8) + (c.val + 7) % 8, by have := lt32 c; show _ < 32; omega⟩
def right (c : Dev nD) : Dev nD := ⟨8 * (c.val / 8) + (c.val + 1) % 8, by have := lt32 c; show _ < 32; omega⟩
def up (c : Dev nD) : Dev nD := ⟨(c.val + 8) % 32, by show _ < 32; omega⟩
def down (c : Dev nD) : Dev nD := ⟨(c.val + 24) % 32, by show _ < 32; omega⟩

theorem left_right (c : Dev nD) : left (right c) = c := by revert c; decide +kernel
theorem right_left (c : Dev nD) : right (left c) = c := by revert c; decide +kernel
theorem up_down (c : Dev nD) : up (down c) = c := by revert c; decide +kernel
theorem down_up (c : Dev nD) : down (up c) = c := by revert c; decide +kernel

theorem devL_eq (c : Dev nD) : devL c = left c := by revert c; decide +kernel
theorem devR_eq (c : Dev nD) : devR c = right c := by revert c; decide +kernel
theorem devU_eq (c : Dev nD) : devU c = up c := by revert c; decide +kernel
theorem devD_eq (c : Dev nD) : devD c = down c := by revert c; decide +kernel

/-- The neighbours as rearrangements of the mesh. -/
def ringPerm : Dev nD ≃ Dev nD := ⟨right, left, left_right, right_left⟩
def planePerm : Dev nD ≃ Dev nD := ⟨up, down, down_up, up_down⟩

/-! ## The transfers and the cells -/

/-- The transfers: phase one's, phase two's, phase three's. -/
abbrev Xf : Type := Fin 28 ⊕ (Fin 12 ⊕ Fin 28)

/-- A transfer's place in the order they start. -/
def num : Xf → ℕ | .inl n => n.val | .inr (.inl n) => 28 + n.val | .inr (.inr n) => 40 + n.val
theorem num_inj : Function.Injective num := by
  rintro (a | a | a) (b | b | b) h <;> simp only [num] at h
  · exact congrArg _ (Fin.ext h)
  · omega
  · omega
  · omega
  · exact congrArg (fun x => Sum.inr (Sum.inl x)) (Fin.ext (by omega))
  · omega
  · omega
  · omega
  · exact congrArg (fun x => Sum.inr (Sum.inr x)) (Fin.ext (by omega))
theorem num_lt (t : Xf) : num t < 68 := by rcases t with a | a | a <;> simp only [num] <;> omega

def ssem : Xf → DmaSem sig
  | .inl n => sem74 cc0_scratch10 n | .inr (.inl n) => sem62 cc0_scratch12 n | .inr (.inr n) => sem74 cc0_scratch14 n
def rsem : Xf → DmaSem sig
  | .inl n => sem74 cc0_scratch11 n | .inr (.inl n) => sem62 cc0_scratch13 n | .inr (.inr n) => sem74 cc0_scratch15 n

/-- The device a device sends a transfer to, as a rearrangement of the mesh. -/
def tgtPerm : Xf → Dev nD ≃ Dev nD
  | .inl _ => ringPerm | .inr (.inl _) => planePerm | .inr (.inr _) => ringPerm
abbrev tgt (t : Xf) (c : Dev nD) : Dev nD := tgtPerm t c
abbrev src (t : Xf) (c : Dev nD) : Dev nD := (tgtPerm t).symm c

/-- A transfer's credit. -/
def amt : Xf → ℕ
  | .inl n => (win7 bR1 n).view.dmaCredit | .inr (.inl n) => (win6 bR2 n).view.dmaCredit | .inr (.inr n) => (win7 bR3 n).view.dmaCredit
theorem amt_pos (t : Xf) : 0 < amt t := by
  rcases t with a | a | a
  · exact View.dmaCredit_pos _ (by decide)
  · exact View.dmaCredit_pos _ (by decide)
  · exact View.dmaCredit_pos _ (by decide)

/-- The kernel's semaphores: the entry barrier (0) and the exit one (1), each transfer's send and receive semaphore. -/
abbrev Ck : Type := Fin 2 ⊕ (Xf ⊕ Xf)

instance ckDecidable : DecidableEq Ck := instDecidableEqSum
instance cellDecidable : DecidableEq (Dev nD × Ck) := instDecidableEqProd

abbrev barS : Sem sig := (SemArray.scalar (sig.barrier 0 rfl) : Sems sig S_).sem
abbrev exS : Sem sig := cc0_scoped0.sem

def csem : Ck → SemLoc sig
  | .inl 0 => .reg barS | .inl 1 => .reg exS | .inr (.inl t) => .dma (ssem t) | .inr (.inr t) => .dma (rsem t)

/-- The semaphores' numbers, the two regular ones apart from the others. -/
def semNo : SemLoc sig → ℕ ⊕ ℕ | .reg s => .inl s.val | .dma s => .inr s.val

def sendNo : Xf → ℕ | .inl n => 5 + n.val | .inr (.inl n) => 61 + n.val | .inr (.inr n) => 85 + n.val
def recvNo : Xf → ℕ | .inl n => 33 + n.val | .inr (.inl n) => 73 + n.val | .inr (.inr n) => 113 + n.val

theorem ssem_val (t : Xf) : (ssem t).val = sendNo t := by
  rcases t with a | a | a <;> revert a <;> decide +kernel
theorem rsem_val (t : Xf) : (rsem t).val = recvNo t := by
  rcases t with a | a | a <;> revert a <;> decide +kernel

theorem sendNo_inj : Function.Injective sendNo := by
  rintro (a | a | a) (b | b | b) h <;> simp only [sendNo] at h <;> first | omega | skip
  · exact congrArg _ (Fin.ext (by omega))
  · exact congrArg (fun x => Sum.inr (Sum.inl x)) (Fin.ext (by omega))
  · exact congrArg (fun x => Sum.inr (Sum.inr x)) (Fin.ext (by omega))
theorem recvNo_inj : Function.Injective recvNo := by
  rintro (a | a | a) (b | b | b) h <;> simp only [recvNo] at h <;> first | omega | skip
  · exact congrArg _ (Fin.ext (by omega))
  · exact congrArg (fun x => Sum.inr (Sum.inl x)) (Fin.ext (by omega))
  · exact congrArg (fun x => Sum.inr (Sum.inr x)) (Fin.ext (by omega))
theorem sendNo_ne_recvNo (t t' : Xf) : sendNo t ≠ recvNo t' := by
  rcases t with a | a | a <;> rcases t' with b | b | b <;> simp only [sendNo, recvNo] <;> omega

theorem ssem_inj : Function.Injective ssem := fun t t' h =>
  sendNo_inj (by rw [← ssem_val, ← ssem_val, h])
theorem rsem_inj : Function.Injective rsem := fun t t' h =>
  recvNo_inj (by rw [← rsem_val, ← rsem_val, h])
theorem ssem_ne_rsem (t t' : Xf) : ssem t ≠ rsem t' := fun h =>
  sendNo_ne_recvNo t t' (by rw [← ssem_val, ← rsem_val, h])
theorem bar_ne_ex : barS ≠ exS := by decide

theorem csem_inj : Function.Injective csem := by
  rintro (a | a | a) (b | b | b) h
  · match a, b, h with
    | 0, 0, _ => rfl
    | 1, 1, _ => rfl
    | 0, 1, h => exact absurd (SemLoc.reg.inj h) bar_ne_ex
    | 1, 0, h => exact absurd (SemLoc.reg.inj h).symm bar_ne_ex
  · match a, h with | 0, h => cases h | 1, h => cases h
  · match a, h with | 0, h => cases h | 1, h => cases h
  · match b, h with | 0, h => cases h | 1, h => cases h
  · exact congrArg (fun t => Sum.inr (Sum.inl t)) (ssem_inj (SemLoc.dma.inj h))
  · exact absurd (SemLoc.dma.inj h) (ssem_ne_rsem _ _)
  · match b, h with | 0, h => cases h | 1, h => cases h
  · exact absurd (SemLoc.dma.inj h).symm (ssem_ne_rsem _ _)
  · exact congrArg (fun t => Sum.inr (Sum.inr t)) (rsem_inj (SemLoc.dma.inj h))

/-- The kernel semaphore a semaphore is, if it is one. -/
def dec : SemLoc sig → Option Ck := Function.partialInv csem
theorem dec_csem (k : Ck) : dec (csem k) = some k := Function.partialInv_left csem_inj k
theorem dec_some {sm : SemLoc sig} {k : Ck} (h : dec sm = some k) : sm = csem k :=
  ((Function.partialInv_of_injective csem_inj) k sm).mp h |>.symm

abbrev kcell (ck : Dev nD × Ck) : GSem nD τ sig := ((ck.1 : Thread nD τ), csem ck.2)
abbrev barCell (c : Dev nD) : GSem nD τ sig := ((c : Thread nD τ), .reg barS)
abbrev exCell (c : Dev nD) : GSem nD τ sig := ((c : Thread nD τ), .reg exS)
abbrev scell (c : Dev nD) (t : Xf) : GSem nD τ sig := ((c : Thread nD τ), .dma (ssem t))
abbrev rcell (c : Dev nD) (t : Xf) : GSem nD τ sig := ((c : Thread nD τ), .dma (rsem t))

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## What is sent -/

/-- What each device sends by each transfer. -/
structure Sent (F : FTy → Type) where
  v1 : Dev nD → Fin 28 → FVec F S128x256 .bf16
  v2 : Dev nD → Fin 12 → FVec F S32x512 .bf16
  v3 : Dev nD → Fin 28 → FVec F S128x256 .bf16

/-- The window `M` on device `c`, at contents not tracked. -/
def anyAt (c : Dev nD) {s : Shape} {e : EltTy} (M : Memref sig .tc .vmem s e) : sProp 𝕄 :=
  iprop(∃ X, owns (c : Thread nD τ) M fullShare X)

instance anyAt_storable (c : Dev nD) {s : Shape} {e : EltTy} (M : Memref sig .tc .vmem s e) :
    BI.Storable (upEmb : UEmb _ 𝕄) (anyAt (F := F) c M) := by unfold anyAt; infer_instance

/-- The landing window of transfer `t` on device `c`. -/
def landing (c : Dev nD) : Xf → sProp 𝕄
  | .inl n => anyAt c (win7 bR1 n) | .inr (.inl n) => anyAt c (win6 bR2 n) | .inr (.inr n) => anyAt c (win7 bR3 n)

instance landing_storable (c : Dev nD) (t : Xf) : BI.Storable (upEmb : UEmb _ 𝕄) (landing (F := F) c t) := by
  rcases t with a | a | a <;> unfold landing <;> infer_instance

/-- The source of a transfer of phase three: the staging block's quarter, later a window that an earlier transfer
    brought, of which half the share stays behind for the reading of it. -/
def src3 (c : Dev nD) (n : Fin 28) (X : FVec F S128x256 .bf16) : sProp 𝕄 :=
  if h : n.val < 4 then owns (c : Thread nD τ) (winS bS3 ⟨n.val, h⟩) fullShare X
  else owns (c : Thread nD τ) (win7 bR3 ⟨n.val - 4, by omega⟩) fullShare.right X

instance src3_storable (c : Dev nD) (n : Fin 28) (X : FVec F S128x256 .bf16) : BI.Storable (upEmb : UEmb _ 𝕄) (src3 c n X) := by
  by_cases h : n.val < 4
  · rw [show src3 c n X = _ from dif_pos h]; infer_instance
  · rw [show src3 c n X = _ from dif_neg h]; infer_instance

variable (V : Sent F)

/-- What a send cell hands back. -/
def sendPay (c : Dev nD) : Xf → sProp 𝕄
  | .inl n => owns (c : Thread nD τ) (win7 bS1 n) fullShare (V.v1 c n)
  | .inr (.inl n) => owns (c : Thread nD τ) (win6 bS2 n) fullShare (V.v2 c n)
  | .inr (.inr n) => src3 c n (V.v3 c n)
/-- What a receive cell hands over. -/
def recvPay (c : Dev nD) : Xf → sProp 𝕄
  | .inl n => owns (c : Thread nD τ) (win7 bR1 n) fullShare (V.v1 (left c) n)
  | .inr (.inl n) => owns (c : Thread nD τ) (win6 bR2 n) fullShare (V.v2 (down c) n)
  | .inr (.inr n) => owns (c : Thread nD τ) (win7 bR3 n) fullShare (V.v3 (left c) n)

instance sendPay_storable (c : Dev nD) (t : Xf) : BI.Storable (upEmb : UEmb _ 𝕄) (sendPay V c t) := by
  rcases t with a | a | a <;> unfold sendPay <;> infer_instance
instance recvPay_storable (c : Dev nD) (t : Xf) : BI.Storable (upEmb : UEmb _ 𝕄) (recvPay V c t) := by
  rcases t with a | a | a <;> unfold recvPay <;> infer_instance

/-- The landing windows a device opens to its left, and those it opens downwards. -/
def landsRing (c : Dev nD) : sProp 𝕄 :=
  iprop((bigSep Finset.univ fun n : Fin 28 => landing (F := F) c (.inl n)) ∗ bigSep Finset.univ fun n : Fin 28 => landing c (.inr (.inr n)))
def landsPlane (c : Dev nD) : sProp 𝕄 := bigSep Finset.univ fun n : Fin 12 => landing (F := F) c (.inr (.inl n))

instance landsRing_storable (c : Dev nD) : BI.Storable (upEmb : UEmb _ 𝕄) (landsRing (F := F) c) := by unfold landsRing; infer_instance
instance landsPlane_storable (c : Dev nD) : BI.Storable (upEmb : UEmb _ 𝕄) (landsPlane (F := F) c) := by unfold landsPlane; infer_instance

/-- What the entry counts hand device `c`: from the right neighbour (0) its landing windows of the ring phases, from
    the upper one (3) those of the plane phase, from the other two nothing. -/
def barPay (c : Dev nD) (d : Fin 4) : sProp 𝕄 :=
  if d = 0 then landsRing (right c) else if d = 3 then landsPlane (up c) else iprop(emp)

instance barPay_storable (c : Dev nD) (d : Fin 4) : BI.Storable (upEmb : UEmb _ 𝕄) (barPay (F := F) c d) := by
  unfold barPay; (repeat' split) <;> infer_instance

/-! ## The schedule -/

def kduties : Ck → Finset (Fin 4) | .inl _ => Finset.univ | .inr _ => {0}
def kamt : Ck → ℕ | .inl _ => 1 | .inr (.inl t) => amt t | .inr (.inr t) => amt t
def kpay (c : Dev nD) : Ck → Fin 4 → sProp 𝕄
  | .inl i, d => if i = 0 then barPay c d else iprop(emp)
  | .inr (.inl t), _ => sendPay V c t
  | .inr (.inr t), _ => recvPay V c t

theorem kamt_pos (k : Ck) : 0 < kamt k := by
  rcases k with a | a | a
  · exact Nat.one_pos
  · exact amt_pos a
  · exact amt_pos a

instance kpay_storable (c : Dev nD) (k : Ck) (d : Fin 4) : BI.Storable (upEmb : UEmb _ 𝕄) (kpay V c k d) := by
  rcases k with a | a | a
  · by_cases h : a = 0
    · rw [show kpay V c (.inl a) d = _ from if_pos h]; infer_instance
    · rw [show kpay V c (.inl a) d = _ from if_neg h]; infer_instance
  · exact (inferInstance : BI.Storable (upEmb : UEmb _ 𝕄) (sendPay V c a))
  · exact (inferInstance : BI.Storable (upEmb : UEmb _ 𝕄) (recvPay V c a))

/-- One round: the barriers have a count from each neighbour, a transfer's two cells its credit once. -/
def sched : Rounds.Schedule (GSem nD τ sig) (Fin 4) 𝕄 where
  duties g r := if r = 0 ∧ g.1.2 = .tc then (dec g.2).elim ∅ kduties else ∅
  unitless _ := False
  amount g _ _ := (dec g.2).elim 1 kamt
  payload g _ d := (dec g.2).elim iprop(emp) fun k => kpay V g.1.1 k d
  amount_pos g _ _ _ := by
    cases h : dec g.2 with
    | none => exact Nat.one_pos
    | some k => exact kamt_pos k

instance sched_storable (g : GSem nD τ sig) (r : ℕ) (d : Fin 4) :
    BI.Storable (upEmb : UEmb _ 𝕄) ((sched (F := F) V).payload g r d) := by
  show BI.Storable upEmb ((dec g.2).elim iprop(emp) fun k => kpay V g.1.1 k d)
  cases h : dec g.2 with
  | none => exact (inferInstance : BI.Storable (upEmb : UEmb _ 𝕄) iprop(emp))
  | some k => exact (inferInstance : BI.Storable (upEmb : UEmb _ 𝕄) (kpay V g.1.1 k d))

theorem duties_k (c : Dev nD) (k : Ck) : (sched V).duties (kcell (c, k)) 0 = kduties k := by
  dsimp only [sched]; rw [if_pos ⟨rfl, rfl⟩, dec_csem]; rfl
theorem duties_later (g : GSem nD τ sig) : ∀ r, 1 ≤ r → (sched V).duties g r = ∅ :=
  fun r hr => by dsimp only [sched]; rw [if_neg fun h => by omega]
theorem amount_k (c : Dev nD) (k : Ck) (d : Fin 4) : (sched V).amount (kcell (c, k)) 0 d = kamt k := by
  dsimp only [sched]; rw [dec_csem]; rfl
theorem payload_k (c : Dev nD) (k : Ck) (d : Fin 4) : (sched V).payload (kcell (c, k)) 0 d = kpay V c k d := by
  dsimp only [sched]; rw [dec_csem]; rfl

theorem expect_bar (c : Dev nD) (i : Fin 2) : (sched V).expect (kcell (c, .inl i)) 0 = 4 := by
  unfold Schedule.expect Schedule.amountOf
  rw [duties_k, Finset.sum_congr rfl fun d _ => amount_k V c (.inl i) d]; rfl
theorem expect_xf (c : Dev nD) (t : Xf ⊕ Xf) : (sched V).expect (kcell (c, .inr t)) 0 = kamt (.inr t) := by
  unfold Schedule.expect Schedule.amountOf
  rw [duties_k, Finset.sum_congr rfl fun d _ => amount_k V c (.inr t) d]; exact Finset.sum_singleton _ _

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rest_bar (c : Dev nD) (i : Fin 2) :
    bigSep ((sched V).duties (kcell (c, .inl i)) 0 \ ∅) (fun d => (sched V).payload (kcell (c, .inl i)) 0 d)
      = iprop(kpay V c (.inl i) 0 ∗ kpay V c (.inl i) 1 ∗ kpay V c (.inl i) 2 ∗ kpay V c (.inl i) 3) := by
  rw [Finset.sdiff_empty, duties_k, show kduties (.inl i) = Finset.univ from rfl, bigSep_fin4]
  simp only [payload_k]
theorem rest_xf (c : Dev nD) (t : Xf ⊕ Xf) :
    bigSep ((sched V).duties (kcell (c, .inr t)) 0 \ ∅) (fun d => (sched V).payload (kcell (c, .inr t)) 0 d) = kpay V c (.inr t) 0 := by
  rw [Finset.sdiff_empty, duties_k, show kduties (.inr t) = {0} from rfl, bigSep_singleton, payload_k]

/-! ## What a device owes, and the levels -/

/-- What starting transfer `t` pays. -/
def pays (c : Dev nD) (t : Xf) : CellTallies nD τ sig Unit := tallyAt (rcell (tgt t c) t) () (amt t)
/-- The four counts a device gives to one barrier: the first to be given last. -/
def pays4 (i : Fin 2) (c : Dev nD) : CellTallies nD τ sig Unit :=
  tallyAt (kcell (down c, .inl i)) () 1 + tallyAt (kcell (up c, .inl i)) () 1 + tallyAt (kcell (right c, .inl i)) () 1 + tallyAt (kcell (left c, .inl i)) () 1
/-- What is owed with the transfers before the `b`-th started: the others, and the exit counts. -/
def owed (c : Dev nD) (b : ℕ) : CellTallies nD τ sig Unit := (∑ t ∈ Finset.univ.filter (fun t => b ≤ num t), pays c t) + pays4 1 c
/-- What is owed at launch. -/
def owed₀ (c : Dev nD) : CellTallies nD τ sig Unit := owed c 0 + pays4 0 c

theorem owed_next (c : Dev nD) (t : Xf) : owed c (num t) = owed c (num t + 1) + pays c t := by
  unfold owed
  have : (Finset.univ.filter fun t' => num t ≤ num t') = insert t (Finset.univ.filter fun t' => num t + 1 ≤ num t') := by
    ext t'
    simp only [Finset.mem_filter, Finset.mem_univ, true_and, Finset.mem_insert]
    constructor
    · intro h
      by_cases h' : num t' = num t
      · exact Or.inl (num_inj h')
      · exact Or.inr (by omega)
    · rintro (rfl | h)
      · exact le_refl _
      · omega
  rw [this, Finset.sum_insert (by simp), add_comm (pays c t), add_right_comm]

theorem owed_end (c : Dev nD) : owed c 68 = pays4 1 c := by
  unfold owed
  rw [Finset.filter_false_of_mem fun t _ => by have := num_lt t; omega, Finset.sum_empty, zero_add]

/-- The levels: a wait comes below what its core still owes. -/
def klev : Ck → ℕ
  | .inl i => if i = 0 then 1 else 100 | .inr (.inl t) => 2 + num t | .inr (.inr t) => 2 + num t
def L (g : GSem nD τ sig) : Finset Unit := if g.1.2 = .tc then {()} else ∅
def lv (g : GSem nD τ sig) (_ : Unit) : ℕ := (dec g.2).elim 0 klev

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) (u : Unit) : lv (kcell (c, k)) u = klev k := by unfold lv; rw [dec_csem]; rfl

theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem pays4_pos {i : Fin 2} {c : Dev nD} {g : GSem nD τ sig} {u : Unit} (h : 0 < pays4 i c g u) : ∃ c', g = kcell (c', .inl i) := by
  unfold pays4 at h
  simp only [Pi.add_apply, Finsupp.add_apply] at h
  by_contra hn
  have hz : ∀ c', tallyAt (kcell (c', .inl i)) () 1 g u = 0 := fun c' => by
    by_contra h'; exact hn ⟨c', tally_pos (Nat.pos_of_ne_zero h')⟩
  simp only [hz] at h
  exact Nat.lt_irrefl 0 h

theorem owed_pos {c : Dev nD} {b : ℕ} (hb : b ≤ 68) {g : GSem nD τ sig} {u : Unit} (h : 0 < owed c b g u) :
    ∃ c' k, g = kcell (c', k) ∧ b + 2 ≤ klev k := by
  unfold owed at h
  rw [Pi.add_apply, Finsupp.add_apply] at h
  rcases Nat.eq_zero_or_pos (pays4 1 c g u) with h4 | h4
  · rw [h4, Nat.add_zero, Finset.sum_apply, Finsupp.finset_sum_apply] at h
    obtain ⟨t, ht, hne⟩ := Finset.exists_ne_zero_of_sum_ne_zero (Nat.ne_of_gt h)
    refine ⟨tgt t c, .inr (.inr t), tally_pos (Nat.pos_of_ne_zero hne), ?_⟩
    have := (Finset.mem_filter.mp ht).2
    show b + 2 ≤ 2 + num t
    omega
  · obtain ⟨c', hc⟩ := pays4_pos h4
    exact ⟨c', _, hc, by show b + 2 ≤ 100; omega⟩

theorem owed₀_pos {c : Dev nD} {g : GSem nD τ sig} {u : Unit} (h : 0 < owed₀ c g u) : ∃ c' k, g = kcell (c', k) ∧ 1 ≤ klev k := by
  unfold owed₀ at h
  rw [Pi.add_apply, Finsupp.add_apply] at h
  rcases Nat.eq_zero_or_pos (pays4 0 c g u) with h4 | h4
  · rw [h4, Nat.add_zero] at h
    obtain ⟨c', k, hg, hk⟩ := owed_pos (by omega) h
    exact ⟨c', k, hg, by omega⟩
  · obtain ⟨c', hc⟩ := pays4_pos h4
    exact ⟨c', _, hc, le_refl _⟩

/-- A wait at a level below everything owed is allowed. -/
theorem mayWait_below (c : Dev nD) (sm : SemLoc sig) (n : ℕ) (hn : lv ((c : Thread nD τ), sm) () ≤ n) (O : CellTallies nD τ sig Unit)
    (hO : ∀ g u, 0 < O g u → ∃ c' k, g = kcell (c', k) ∧ n < klev k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hn)
    (fun g u hg => by obtain ⟨c', k, rfl, hk⟩ := hO g u hg; rw [lv_k]; exact hk)

theorem mayWait_xf (c : Dev nD) (t : Xf ⊕ Xf) (b : ℕ) (hb : b ≤ 68) (ht : klev (.inr t) < b + 2) :
    (levAts L lv : sProp 𝕄) ⊢ MayWait (c : Thread nD τ) (csem (.inr t)) () (owed c b) :=
  mayWait_below c _ (klev (.inr t)) (le_of_eq (lv_k c (.inr t) ())) _ fun g u hg => by
    obtain ⟨c', k, h1, h2⟩ := owed_pos hb hg
    exact ⟨c', k, h1, by omega⟩

theorem mayWait_bar (c : Dev nD) : (levAts L lv : sProp 𝕄) ⊢ MayWait (c : Thread nD τ) (csem (.inl 0)) () (owed c 0) :=
  mayWait_below c _ 1 (le_of_eq (lv_k c (.inl 0) ())) _ fun g u hg => by
    obtain ⟨c', k, h1, h2⟩ := owed_pos (Nat.zero_le _) hg
    exact ⟨c', k, h1, by omega⟩

end Cert.KProof
-- ==== Proof.Rules.lean ====
/-
# `Rules`: triples over one device's core, and the rule of each signal, wait and transfer

A triple says what a piece of the body takes and what it leaves, beside the records every device shares: the cells'
invariants, that each cell's round is open, and the levels.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A window's elements at contents that read `X`. -/
theorem owns_intro (c : Dev nD) {sp : Space} {s : Shape} {e : EltTy} (M : Memref sig .tc sp s e) (q : PosShare TreeShare) {X : s.Idx → Elt F e}
    {f : Buf (Elt F) (M.view.loc (c : Thread nD τ))} (hf : M.view.read (Elt F) f = X) :
    (M.view.loc (c : Thread nD τ) ↦[M.view.set]{q} f : sProp 𝕄) ⊢ owns (c : Thread nD τ) M q X := by
  unfold owns
  iintro H; iexists f; isplitr; · ipureintro; exact hf
  iexact H

variable (V : Sent F) (K : Dev nD × Ck → ℕ)

/-- What every device may use at any time. -/
def recs : sProp 𝕄 :=
  iprop((bigSep Finset.univ fun ck : Dev nD × Ck => cellInv ER (sched V) (K ck) (kcell ck))
    ∗ (bigSep Finset.univ fun ck : Dev nD × Ck => reached ER (kcell ck) 0) ∗ levAts L lv)

instance recs_persistent : BI.Persistent (recs V K) := by unfold recs; infer_instance

theorem inv_at (ck : Dev nD × Ck) :
    (bigSep Finset.univ fun ck : Dev nD × Ck => (cellInv ER (sched V) (K ck) (kcell ck) : sProp 𝕄)) ⊢ cellInv ER (sched V) (K ck) (kcell ck) :=
  bigSep_elim (Finset.mem_univ ck)
theorem reached_at (ck : Dev nD × Ck) :
    (bigSep Finset.univ fun ck : Dev nD × Ck => (reached ER (kcell ck) 0 : sProp 𝕄)) ⊢ reached ER (kcell ck) 0 :=
  bigSep_elim (Finset.mem_univ ck)

theorem recs_inv (ck : Dev nD × Ck) : recs V K ⊢ cellInv ER (sched V) (K ck) (kcell ck) := by
  unfold recs; iintro ⟨H, -⟩; iapply (inv_at V K ck); iexact H
theorem recs_reached (ck : Dev nD × Ck) : recs V K ⊢ reached ER (kcell ck) 0 := by
  unfold recs; iintro ⟨-, H, -⟩; iapply (reached_at (F := F) ck); iexact H
theorem recs_levels : recs V K ⊢ levAts L lv := by
  unfold recs; iintro ⟨-, -, H⟩; iexact H

/-- From the records and `P`, the piece `p` on device `c` ends with `Q`. -/
def Tri (c : Dev nD) (P : sProp 𝕄) (p : Act F PUnit) (Q : sProp 𝕄) : Prop :=
  iprop(recs V K ∗ P) ⊢ wp frame (wpE (defs₀ (F := F)) 𝒱₀ (c : Thread nD τ) none) Set.univ p (fun _ => Q)

variable {V K}
variable {c : Dev nD} {P P' Q Q' R : sProp (MT nD τ sig Unit (Elt F) ℕ UU ℕ)} {p q : Act F PUnit}

theorem Tri.seq (h : Tri V K c P p Q) (h' : Tri V K c Q q R) : Tri V K c P (p >>= fun _ => q) R := by
  unfold Tri at *
  rw [wp_bind]
  iintro ⟨#HR, HP⟩
  iapply wp_wand_r
  isplitl [HP]
  · iapply h; isplitr; · iexact HR
    iexact HP
  · iintro %x HQ
    iapply h'; isplitr; · iexact HR
    iexact HQ

theorem Tri.frame (R : sProp 𝕄) (h : Tri V K c P p Q) : Tri V K c iprop(P ∗ R) p iprop(Q ∗ R) := by
  unfold Tri at *
  iintro ⟨#HR, HP, HX⟩
  iapply wp_frame_r
  isplitl [HP]
  · iapply h; isplitr; · iexact HR
    iexact HP
  · iexact HX

theorem Tri.conseq (h : Tri V K c P p Q) (h₁ : P' ⊢ P) (h₂ : Q ⊢ Q') : Tri V K c P' p Q' := by
  unfold Tri at *
  exact ((sep_mono_right h₁).trans h).trans (wp_mono _ _ _ fun _ => h₂)

theorem Tri.nop : Tri V K c P (pure ⟨⟩) P := by
  unfold Tri
  iintro ⟨-, HP⟩
  rw [Prog.pure_eq_ret, wp_ret]; imodintro; iexact HP

/-! ## What a core owes, with the waits it has made not tracked -/

def owesAny (c : Dev nD) (O : CellTallies nD τ sig Unit) : sProp 𝕄 := iprop(∃ W, owes (c : Thread nD τ) O W)

/-! ## A count to a neighbour -/

theorem tri_signal (d : Dev nD) (i : Fin 2) (j : Fin 4) (s : Sem sig) (hs : csem (.inl i) = .reg s) (O : CellTallies nD τ sig Unit) :
    Tri V K c
      iprop(owesAny c (O + tallyAt (kcell (d, .inl i)) () 1) ∗ dutyTok ER (kcell (d, .inl i)) 0 j ∗ kpay V d (.inl i) j)
      (semSignalWord d s 1#32)
      (owesAny c O) := by
  unfold Tri owesAny
  simp only [semSignalWord, Prog.lift]
  iintro ⟨#HR, ⟨%W, HO⟩, Ht, Hp⟩
  have e : kcell (d, .inl i) = ((d : Thread nD τ), SemLoc.reg s) := by unfold kcell; rw [hs]
  have hd : j ∈ (sched V).duties ((d : Thread nD τ), SemLoc.reg s) 0 := by rw [← e, duties_k]; exact Finset.mem_univ _
  have ha : (sched V).amount ((d : Thread nD τ), SemLoc.reg s) 0 j = (1#32).toNat := by rw [← e, amount_k]; rfl
  have hp : (sched V).payload ((d : Thread nD τ), SemLoc.reg s) 0 j = kpay V d (.inl i) j := by rw [← e, payload_k]
  rw [e]
  iapply (Rounds.wp_signal 𝒱₀ ER (sched V) (c : Thread nD τ) none (dst := (d : Thread nD τ)) (κ := K (d, .inl i)) hd ha () O rfl) $$ [HO Ht Hp]
  · isplitr; · rw [← e]; iapply (recs_inv V K (d, .inl i)); iexact HR
    isplitl [HO]; · iexact HO
    isplitl [Ht]; · iexact Ht
    isplitl [Hp]; · rw [hp]; iexact Hp
    rw [← e]; iapply (recs_reached V K (d, .inl i)); iexact HR
  iintro HO
  rw [wp_ret]; imodintro
  iexists W; iexact HO

set_option maxRecDepth 16000 in
/-- The wait for the four counts of a barrier. -/
theorem tri_wait4 (i : Fin 2) (s : Sem sig) (hs : csem (.inl i) = .reg s) (O : CellTallies nD τ sig Unit)
    (hO : (levAts L lv : sProp 𝕄) ⊢ MayWait (c : Thread nD τ) (csem (.inl i)) () O) :
    Tri V K c
      iprop(owesAny c O ∗ cred (tallyAt (kcell (c, .inl i)) () 4) ∗ atPos ER (kcell (c, .inl i)) 0 ∅ 0)
      (semWaitWord s 4#32)
      iprop(owesAny c O ∗ atPos ER (kcell (c, .inl i)) 1 ∅ 0
        ∗ kpay V c (.inl i) 0 ∗ kpay V c (.inl i) 1 ∗ kpay V c (.inl i) 2 ∗ kpay V c (.inl i) 3) := by
  unfold Tri owesAny
  simp only [semWaitWord, Prog.lift]
  iintro ⟨#HR, ⟨%W, HO⟩, Hc, Ha⟩
  have e : kcell (c, .inl i) = ((c : Thread nD τ), SemLoc.reg s) := by unfold kcell; rw [hs]
  have hk : 0 + (4#32).toNat = (sched V).expect ((c : Thread nD τ), SemLoc.reg s) 0 := by rw [← e, expect_bar]; rfl
  have hr := rest_bar V c i
  rw [e] at hr
  rw [hs] at hO
  have hO' := (recs_levels V K).trans hO
  rw [e]
  iapply (Rounds.wp_wait_rest_token 𝒱₀ ER (sched V) (c : Thread nD τ) none (κ := K (c, .inl i))
      (wpE_semWait_eq 𝒱₀ (c : Thread nD τ) none Set.univ) (Set.mem_univ _) () (O := O) (W := W) (R := 0) (m := 0) (T := ∅) hk) $$ [HO Hc Ha]
  · isplitr; · rw [← e]; iapply (recs_inv V K (c, .inl i)); iexact HR
    isplitl [Hc]; · iexact Hc
    isplitl [HO]; · iexact HO
    isplitr; · iapply hO'; iexact HR
    iexact Ha
  iintro ⟨HO, Ha, -, Hp⟩
  rw [wp_ret]; imodintro
  isplitl [HO]; · iexists (insert (SemLoc.reg s, ()) W); iexact HO
  isplitl [Ha]; · iexact Ha
  iapply (Entails.of_eq hr); iexact Hp

/-! ## A transfer: its start and the waits for its two ends -/

theorem tri_send (t : Xf) {sp : Space} {s : Shape} {e : EltTy} (d : Dev nD) (hd : d = tgt t c) (M : Memref sig .tc sp s e) (M' : Memref sig .tc .vmem s e)
    (X : s.Idx → Elt F e) (q : PosShare TreeShare)
    {hsc : M'.view.ref.isScScratch = false} {hsrc : M.view.WordExact} {hdst : M'.view.WordExact}
    {hsem : DmaTarget.Typed sp (.dma (rsem t)) (.remote (Dev.tc d : Thread nD τ) (M' : Memref sig (Dev.tc d : Thread nD τ).2.kind .vmem s e) (.dma (ssem t)) hsc)}
    (hN : M'.view.dmaCredit = amt t)
    (hs : (owns (c : Thread nD τ) M q X : sProp 𝕄) ⊢ sendPay V c t)
    (hr : (owns (tgt t c : Thread nD τ) M' fullShare X : sProp 𝕄) ⊢ recvPay V (tgt t c) t) :
    Tri V K c
      iprop(owesAny c (owed c (num t)) ∗ owns (c : Thread nD τ) M q X ∗ anyAt (tgt t c) M'
        ∗ dutyTok ER (scell c t) 0 0 ∗ dutyTok ER (rcell (tgt t c) t) 0 0)
      (Prog.lift (.enqueueDma M (.remote (Dev.tc d : Thread nD τ) M' (.dma (ssem t)) hsc) (.dma (rsem t)) hsrc hdst hsem))
      iprop(owesAny c (owed c (num t + 1)) ∗ cred (tallyAt (scell c t) () (amt t))) := by
  subst hd
  unfold Tri owesAny anyAt owns
  simp only [Prog.lift]
  iintro ⟨#HR, ⟨%W, HO⟩, ⟨%fs, %hfs, Hs⟩, ⟨%Y, %fd, %hfd, Hd⟩, Hts, Htr⟩
  iapply (Rounds.wp_send_pointsTo 𝒱₀ ER (sched V) (c : Thread nD τ) none (κ₁ := K (c, .inr (.inl t))) (κ₂ := K (tgt t c, .inr (.inr t)))
    (r₁ := 0) (r₂ := 0) (d₁ := 0) (d₂ := 0) (fs := fs) (fd := fd) (q := q) (c' := (tgt t c : Thread nD τ)) (sS := .dma (ssem t)) (sem := .dma (rsem t))
    (by rw [show (((c : Thread nD τ), SemLoc.dma (ssem t)) : GSem nD τ sig) = kcell (c, .inr (.inl t)) from rfl, duties_k]; exact Finset.mem_singleton_self _)
    (by rw [show (((tgt t c : Thread nD τ), SemLoc.dma (rsem t)) : GSem nD τ sig) = kcell (tgt t c, .inr (.inr t)) from rfl, duties_k]; exact Finset.mem_singleton_self _)
    () () (amt t) hN (amount_k V c (.inr (.inl t)) 0) (amount_k V (tgt t c) (.inr (.inr t)) 0) (owed c (num t + 1)) (owed_next c t) (W := W)
    (by
      rw [show (((c : Thread nD τ), SemLoc.dma (ssem t)) : GSem nD τ sig) = kcell (c, .inr (.inl t)) from rfl, payload_k]
      exact (owns_intro c M q hfs).trans hs)
    (by
      rw [show (((tgt t c : Thread nD τ), SemLoc.dma (rsem t)) : GSem nD τ sig) = kcell (tgt t c, .inr (.inr t)) from rfl, payload_k]
      exact (owns_intro (tgt t c) M' fullShare ((View.read_write_univ _ _).trans hfs)).trans hr)) $$ [HO Hs Hd Hts Htr]
  · isplitr; · iapply (recs_inv V K (c, .inr (.inl t))); iexact HR
    isplitr; · iapply (recs_inv V K (tgt t c, .inr (.inr t))); iexact HR
    isplitl [Hs]; · iexact Hs
    isplitl [Hd]; · iexact Hd
    isplitl [HO]; · iexact HO
    isplitl [Hts]; · iexact Hts
    isplitr; · iapply (recs_reached V K (c, .inr (.inl t))); iexact HR
    isplitl [Htr]; · iexact Htr
    iapply (recs_reached V K (tgt t c, .inr (.inr t))); iexact HR
  iintro ⟨Hc, HO⟩
  rw [wp_ret]; imodintro
  isplitl [HO]; · iexists W; iexact HO
  iexact Hc

set_option maxRecDepth 16000 in
/-- The wait at one end of a transfer that has started, from the operation's clause. -/
theorem tri_wait (t : Xf ⊕ Xf) (w : TpuEff nD τ sig (Elt F) Λ₀ .tc PUnit) (b : ℕ) (hb : b ≤ 68) (ht : klev (.inr t) < b + 2)
    (hw : ∀ Z : PUnit → sProp 𝕄, wpE (defs₀ (F := F)) 𝒱₀ (c : Thread nD τ) none Set.univ w Z = waitSpec (c : Thread nD τ) Set.univ (csem (.inr t)) (kamt (.inr t)) Z) :
    Tri V K c
      iprop(owesAny c (owed c b) ∗ cred (tallyAt (kcell (c, .inr t)) () (kamt (.inr t))) ∗ atPos ER (kcell (c, .inr t)) 0 ∅ 0)
      (Prog.lift w)
      iprop(owesAny c (owed c b) ∗ atPos ER (kcell (c, .inr t)) 1 ∅ 0 ∗ kpay V c (.inr t) 0) := by
  unfold Tri owesAny
  simp only [Prog.lift]
  have hO' := (recs_levels V K).trans (mayWait_xf c t b hb ht)
  iintro ⟨#HR, ⟨%W, HO⟩, Hc, Ha⟩
  iapply (Rounds.wp_wait_rest_token 𝒱₀ ER (sched V) (c : Thread nD τ) none (κ := K (c, .inr t))
      hw (Set.mem_univ _) () (O := owed c b) (W := W) (R := 0) (m := 0) (T := ∅) (by rw [Nat.zero_add, expect_xf])) $$ [HO Hc Ha]
  · isplitr; · iapply (recs_inv V K (c, .inr t)); iexact HR
    isplitl [Hc]; · iexact Hc
    isplitl [HO]; · iexact HO
    isplitr; · iapply hO'; iexact HR
    iexact Ha
  iintro ⟨HO, Ha, -, Hp⟩
  rw [wp_ret]; imodintro
  isplitl [HO]; · iexists (insert (csem (.inr t), ()) W); iexact HO
  isplitl [Ha]; · iexact Ha
  iapply (Entails.of_eq (rest_xf V c t)); iexact Hp

end Cert.KProof
-- ==== Proof.Local.lean ====
/-
# `Local`: the steps that stay on a device

The four casts, the block product, and the staging, adding and putting down of windows. The output's contents are
tracked by a predicate; a step takes it from one predicate to another.
-/
module

public import proofs.«01_k».proof.Proof.Rules
public import Idealize.ShloMosaic.Lib.VecWindow
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The blocks of the output -/

theorem blk_inb (q : Fin 8) : ∀ a, (![128 * q.val, 0] : Fin 2 → ℕ) a + S128x1024.size a ≤ S1024x1024.size a := by revert q; decide
theorem quad_inb (q : Fin 8) (h : Fin 4) : ∀ a, (![128 * q.val, 256 * h.val] : Fin 2 → ℕ) a + S128x256.size a ≤ S1024x1024.size a := by
  revert q h; decide
theorem half_inb (q : Fin 8) (u : Fin 4) (h : Fin 2) :
    ∀ a, (![128 * q.val + 32 * u.val, 512 * h.val] : Fin 2 → ℕ) a + S32x512.size a ≤ S1024x1024.size a := by revert q u h; decide

/-- Block `q` of rows. -/
def blk {φ : FTy} (f : FVec F S1024x1024 φ) (q : Fin 8) : FVec F S128x1024 φ :=
  VecWindow.window (s := S1024x1024) f ![128 * q.val, 0] S128x1024.size (blk_inb q)
/-- Quarter `h` of block `q`. -/
def quad {φ : FTy} (f : FVec F S1024x1024 φ) (q : Fin 8) (h : Fin 4) : FVec F S128x256 φ :=
  VecWindow.window (s := S1024x1024) f ![128 * q.val, 256 * h.val] S128x256.size (quad_inb q h)
/-- Half `h` of sub-block `u` of block `q`. -/
def half {φ : FTy} (f : FVec F S1024x1024 φ) (q : Fin 8) (u : Fin 4) (h : Fin 2) : FVec F S32x512 φ :=
  VecWindow.window (s := S1024x1024) f ![128 * q.val + 32 * u.val, 512 * h.val] S32x512.size (half_inb q u h)
/-- Quarter `h` of one block. -/
def quarter {φ : FTy} (f : FVec F S128x1024 φ) (h : Fin 4) : FVec F S128x256 φ :=
  VecWindow.window (s := S128x1024) f (atS h) S128x256.size (atS_inb h)

def putBlk (f : FVec F S1024x1024 .f32) (q : Fin 8) (w : FVec F S128x1024 .f32) : FVec F S1024x1024 .f32 :=
  VecWindow.put (s := S1024x1024) f ![128 * q.val, 0] S128x1024.size w
def putQuad (f : FVec F S1024x1024 .f32) (q : Fin 8) (h : Fin 4) (w : FVec F S128x256 .f32) : FVec F S1024x1024 .f32 :=
  VecWindow.put (s := S1024x1024) f ![128 * q.val, 256 * h.val] S128x256.size w
def putHalf (f : FVec F S1024x1024 .f32) (q : Fin 8) (u : Fin 4) (h : Fin 2) (w : FVec F S32x512 .f32) : FVec F S1024x1024 .f32 :=
  VecWindow.put (s := S1024x1024) f ![128 * q.val + 32 * u.val, 512 * h.val] S32x512.size w

/-! ## Reading and writing a whole buffer through a window -/

theorem load_whole (b : Ref sig .tc) (f : b.ty.Contents (Elt F)) {off off' size : Fin b.ty.shape.rank → ℕ}
    (inb : ∀ a, off a + size a ≤ b.ty.shape.size a) (h : off = off') (inb' : ∀ a, off' a + size a ≤ b.ty.shape.size a) :
    (Memref.whole b : Memref sig .tc _ _ _).view.readAt (Elt F) (Rect.unit off size inb).toLoadRect f = VecWindow.window f off' size inb' := by
  have := View.readAt_unit (Val := Elt F) (View.whole b) f inb h inb'
  rw [View.read_whole] at this
  exact this

theorem store_whole (b : Ref sig .tc) (f : b.ty.Contents (Elt F)) {off off' size : Fin b.ty.shape.rank → ℕ}
    (inb : ∀ a, off a + size a ≤ b.ty.shape.size a) (h : off = off') (w : (Rect.unit off size inb).shape.Idx → Elt F b.ty.elt) :
    ((Memref.whole b : Memref sig .tc _ _ _).access (Rect.unit off size inb)).write (Elt F) f w Finset.univ = VecWindow.put f off' size w := by
  have := View.read_writes_cons_put (Val := Elt F) (View.whole b) f inb w [] h
  rw [View.read_whole, View.writes_nil, View.read_whole] at this
  exact this

/-- A store on elements that include the window's. -/
theorem wp_place (c : Dev nD) {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {Q : PUnit → sProp 𝕄} {k : PUnit → Act F PUnit}
    {S : Finset (Idx (m.view.loc (c : Thread nD τ)))} {f : Buf (Elt F) (m.view.loc (c : Thread nD τ))} (hS : (m.access r).set ⊆ S) :
    ((m.view.loc (c : Thread nD τ) ↦[S]{fullShare} f) : sProp 𝕄)
      ⊢ iprop(((m.view.loc (c : Thread nD τ) ↦[S]{fullShare} ((m.access r).write (Elt F) f w Finset.univ))
          -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) :=
  wp_store 𝒱₀ (c : Thread nD τ) none Set.univ (Q := Q) (w := w) (hx := hx) (hm := hm) (k := k) (Mk := Finset.univ) (f := f) hS

theorem hz2 : (![0, 0] : Fin 2 → Nat) = fun _ => 0 := funext fun a => by fin_cases a <;> rfl

theorem load_bX (f : FVec F S1024x1024 .f32) (inb) : bX.view.readAt (Elt F) (Rect.unit (s := S1024x1024) ![0, 0] S1024x1024.size inb).toLoadRect f = f :=
  Memref.readAt_unit_zero (Elt F) cc0_stg0_0 hz2 _ f
theorem load_bWg (f : FVec F S1024x2048 .f32) (inb) : bWg.view.readAt (Elt F) (Rect.unit (s := S1024x2048) ![0, 0] S1024x2048.size inb).toLoadRect f = f :=
  Memref.readAt_unit_zero (Elt F) cc0_stg1_0 hz2 _ f
theorem load_bWu (f : FVec F S1024x2048 .f32) (inb) : bWu.view.readAt (Elt F) (Rect.unit (s := S1024x2048) ![0, 0] S1024x2048.size inb).toLoadRect f = f :=
  Memref.readAt_unit_zero (Elt F) cc0_stg2_0 hz2 _ f
theorem load_bWd (f : FVec F S2048x1024 .f32) (inb) : bWd.view.readAt (Elt F) (Rect.unit (s := S2048x1024) ![0, 0] S2048x1024.size inb).toLoadRect f = f :=
  Memref.readAt_unit_zero (Elt F) cc0_stg3_0 hz2 _ f
theorem load_bWg16 (f : FVec F S1024x2048 .bf16) (inb) : bWg16.view.readAt (Elt F) (Rect.unit (s := S1024x2048) ![0, 0] S1024x2048.size inb).toLoadRect f = f :=
  Memref.readAt_unit_zero (Elt F) cc0_scratch1 hz2 _ f
theorem load_bWu16 (f : FVec F S1024x2048 .bf16) (inb) : bWu16.view.readAt (Elt F) (Rect.unit (s := S1024x2048) ![0, 0] S1024x2048.size inb).toLoadRect f = f :=
  Memref.readAt_unit_zero (Elt F) cc0_scratch2 hz2 _ f
theorem load_bWd16 (f : FVec F S2048x1024 .bf16) (inb) : bWd16.view.readAt (Elt F) (Rect.unit (s := S2048x1024) ![0, 0] S2048x1024.size inb).toLoadRect f = f :=
  Memref.readAt_unit_zero (Elt F) cc0_scratch3 hz2 _ f
theorem store_bX16 (f w : FVec F S1024x1024 .bf16) (inb) : (bX16.access (Rect.unit (s := S1024x1024) ![0, 0] S1024x1024.size inb)).write (Elt F) f w Finset.univ = w :=
  Memref.write_access_unit_zero_univ (Elt F) cc0_scratch0 hz2 inb f w
theorem store_bWg16 (f w : FVec F S1024x2048 .bf16) (inb) : (bWg16.access (Rect.unit (s := S1024x2048) ![0, 0] S1024x2048.size inb)).write (Elt F) f w Finset.univ = w :=
  Memref.write_access_unit_zero_univ (Elt F) cc0_scratch1 hz2 inb f w
theorem store_bWu16 (f w : FVec F S1024x2048 .bf16) (inb) : (bWu16.access (Rect.unit (s := S1024x2048) ![0, 0] S1024x2048.size inb)).write (Elt F) f w Finset.univ = w :=
  Memref.write_access_unit_zero_univ (Elt F) cc0_scratch2 hz2 inb f w
theorem store_bWd16 (f w : FVec F S2048x1024 .bf16) (inb) : (bWd16.access (Rect.unit (s := S2048x1024) ![0, 0] S2048x1024.size inb)).write (Elt F) f w Finset.univ = w :=
  Memref.write_access_unit_zero_univ (Elt F) cc0_scratch3 hz2 inb f w
theorem store_bS3 (f w : FVec F S128x1024 .bf16) (inb) : (bS3.access (Rect.unit (s := S128x1024) ![0, 0] S128x1024.size inb)).write (Elt F) f w Finset.univ = w :=
  Memref.write_access_unit_zero_univ (Elt F) cc0_scratch8 hz2 inb f w
theorem load_rows (f : FVec F S1024x1024 .bf16) (q : Fin 8) {off : Fin 2 → ℕ} (inb) (ho : off = ![128 * q.val, 0]) :
    bX16.view.readAt (Elt F) (Rect.unit (s := S1024x1024) off S128x1024.size inb).toLoadRect f = blk f q := load_whole cc0_scratch0 f inb ho (blk_inb q)
theorem load_blk (f : FVec F S1024x1024 .f32) (q : Fin 8) {off : Fin 2 → ℕ} (inb) (ho : off = ![128 * q.val, 0]) :
    bOut.view.readAt (Elt F) (Rect.unit (s := S1024x1024) off S128x1024.size inb).toLoadRect f = blk f q := load_whole cc0_stg4_0 f inb ho (blk_inb q)
theorem load_quad (f : FVec F S1024x1024 .f32) (q : Fin 8) (h : Fin 4) {off : Fin 2 → ℕ} (inb) (ho : off = ![128 * q.val, 256 * h.val]) :
    bOut.view.readAt (Elt F) (Rect.unit (s := S1024x1024) off S128x256.size inb).toLoadRect f = quad f q h := load_whole cc0_stg4_0 f inb ho (quad_inb q h)
theorem load_half (f : FVec F S1024x1024 .f32) (q : Fin 8) (u : Fin 4) (h : Fin 2) {off : Fin 2 → ℕ} (inb) (ho : off = ![128 * q.val + 32 * u.val, 512 * h.val]) :
    bOut.view.readAt (Elt F) (Rect.unit (s := S1024x1024) off S32x512.size inb).toLoadRect f = half f q u h := load_whole cc0_stg4_0 f inb ho (half_inb q u h)
theorem store_blk (f : FVec F S1024x1024 .f32) (q : Fin 8) (w : FVec F S128x1024 .f32) {off : Fin 2 → ℕ} (inb) (ho : off = ![128 * q.val, 0]) :
    (bOut.access (Rect.unit (s := S1024x1024) off S128x1024.size inb)).write (Elt F) f w Finset.univ = putBlk f q w := store_whole cc0_stg4_0 f inb ho w
theorem store_quad (f : FVec F S1024x1024 .f32) (q : Fin 8) (h : Fin 4) (w : FVec F S128x256 .f32) {off : Fin 2 → ℕ} (inb) (ho : off = ![128 * q.val, 256 * h.val]) :
    (bOut.access (Rect.unit (s := S1024x1024) off S128x256.size inb)).write (Elt F) f w Finset.univ = putQuad f q h w := store_whole cc0_stg4_0 f inb ho w
theorem store_half (f : FVec F S1024x1024 .f32) (q : Fin 8) (u : Fin 4) (h : Fin 2) (w : FVec F S32x512 .f32) {off : Fin 2 → ℕ} (inb) (ho : off = ![128 * q.val + 32 * u.val, 512 * h.val]) :
    (bOut.access (Rect.unit (s := S1024x1024) off S32x512.size inb)).write (Elt F) f w Finset.univ = putHalf f q u h w := store_whole cc0_stg4_0 f inb ho w

variable {V : Sent F} {K : Dev nD × Ck → ℕ} {c : Dev nD}

/-- A whole buffer at contents `f`. -/
abbrev held (c : Dev nD) (b : Ref sig .tc) (f : b.ty.Contents (Elt F)) : sProp 𝕄 := (((c : Thread nD τ).loc b) ↦{fullShare} f)
/-- A whole buffer at contents not tracked. -/
abbrev heldAny (c : Dev nD) (b : Ref sig .tc) : sProp 𝕄 := iprop(∃ f : b.ty.Contents (Elt F), held c b f)
/-- The output at contents of which `P` holds. -/
def outP (c : Dev nD) (P : FVec F S1024x1024 .f32 → Prop) : sProp 𝕄 := iprop(∃ f : FVec F S1024x1024 .f32, ⌜P f⌝ ∗ held c cc0_stg4_0 f)

theorem outP_mono {P Q : FVec F S1024x1024 .f32 → Prop} (h : ∀ f, P f → Q f) : (outP c P : sProp 𝕄) ⊢ outP c Q := by
  unfold outP
  iintro ⟨%f, %hf, H⟩; iexists f; isplitr; · ipureintro; exact h f hf
  iexact H

/-! ## The prologue -/

theorem tri_castX (f : FVec F S1024x1024 .f32) :
    Tri V K c iprop(held c cc0_stg0_0 f ∗ heldAny c cc0_scratch0) castX
      iprop(held c cc0_stg0_0 f ∗ held c cc0_scratch0 (truncf .bf16 f bitsLt_bf16_f32 : FVec F S1024x1024 .bf16)) := by
  unfold Tri castX
  simp only [Prog.lift, Prog.bind_op, Prog.bind_ret]
  iintro ⟨-, Hx, ⟨%g, Hy⟩⟩
  iapply (wp_load 𝒱₀ (c : Thread nD τ) none Set.univ (m := bX) (Finset.subset_univ _)) $$ Hx; iintro Hx
  iapply (wp_load 𝒱₀ (c : Thread nD τ) none Set.univ (m := bX16) (Finset.subset_univ _)) $$ Hy; iintro Hy
  iapply (wp_place c (m := bX16) (r := Rect.unit (s := S1024x1024) ![0, 0] S1024x1024.size inb_S1024x1024_S1024x1024_0_0) (Finset.subset_univ _)) $$ Hy; iintro Hy
  rw [wp_ret]; imodintro
  rw [load_bX f, store_bX16, shapeCast_self, shapeCast_self]
  isplitl [Hx] <;> iassumption

theorem tri_castD (f : FVec F S2048x1024 .f32) :
    Tri V K c iprop(held c cc0_stg3_0 f ∗ heldAny c cc0_scratch3) castD
      iprop(held c cc0_stg3_0 f ∗ held c cc0_scratch3 (truncf .bf16 f bitsLt_bf16_f32 : FVec F S2048x1024 .bf16)) := by
  unfold Tri castD
  simp only [Prog.lift, Prog.bind_op, Prog.bind_ret]
  iintro ⟨-, Hx, ⟨%g, Hy⟩⟩
  iapply (wp_load 𝒱₀ (c : Thread nD τ) none Set.univ (m := bWd) (Finset.subset_univ _)) $$ Hx; iintro Hx
  iapply (wp_load 𝒱₀ (c : Thread nD τ) none Set.univ (m := bWd16) (Finset.subset_univ _)) $$ Hy; iintro Hy
  iapply (wp_place c (m := bWd16) (r := Rect.unit (s := S2048x1024) ![0, 0] S2048x1024.size inb_S2048x1024_S2048x1024_0_0) (Finset.subset_univ _)) $$ Hy; iintro Hy
  rw [wp_ret]; imodintro
  rw [load_bWd f, store_bWd16, shapeCast_self, shapeCast_self]
  isplitl [Hx] <;> iassumption

theorem tri_castG (f : FVec F S1024x2048 .f32) :
    Tri V K c iprop(held c cc0_stg1_0 f ∗ heldAny c cc0_scratch1) (castW bWg bWg16 (Memref.isWhole_whole _))
      iprop(held c cc0_stg1_0 f ∗ held c cc0_scratch1 (truncf .bf16 f bitsLt_bf16_f32 : FVec F S1024x2048 .bf16)) := by
  unfold Tri castW
  simp only [Prog.lift, Prog.bind_op, Prog.bind_ret]
  iintro ⟨-, Hx, ⟨%g, Hy⟩⟩
  iapply (wp_load 𝒱₀ (c : Thread nD τ) none Set.univ (m := bWg) (Finset.subset_univ _)) $$ Hx; iintro Hx
  iapply (wp_load 𝒱₀ (c : Thread nD τ) none Set.univ (m := bWg16) (Finset.subset_univ _)) $$ Hy; iintro Hy
  iapply (wp_place c (m := bWg16) (r := Rect.unit (s := S1024x2048) ![0, 0] S1024x2048.size inb_S1024x2048_S1024x2048_0_0) (Finset.subset_univ _)) $$ Hy; iintro Hy
  rw [wp_ret]; imodintro
  rw [load_bWg f, store_bWg16, shapeCast_self, shapeCast_self]
  isplitl [Hx] <;> iassumption

theorem tri_castU (f : FVec F S1024x2048 .f32) :
    Tri V K c iprop(held c cc0_stg2_0 f ∗ heldAny c cc0_scratch2) (castW bWu bWu16 (Memref.isWhole_whole _))
      iprop(held c cc0_stg2_0 f ∗ held c cc0_scratch2 (truncf .bf16 f bitsLt_bf16_f32 : FVec F S1024x2048 .bf16)) := by
  unfold Tri castW
  simp only [Prog.lift, Prog.bind_op, Prog.bind_ret]
  iintro ⟨-, Hx, ⟨%g, Hy⟩⟩
  iapply (wp_load 𝒱₀ (c : Thread nD τ) none Set.univ (m := bWu) (Finset.subset_univ _)) $$ Hx; iintro Hx
  iapply (wp_load 𝒱₀ (c : Thread nD τ) none Set.univ (m := bWu16) (Finset.subset_univ _)) $$ Hy; iintro Hy
  iapply (wp_place c (m := bWu16) (r := Rect.unit (s := S1024x2048) ![0, 0] S1024x2048.size inb_S1024x2048_S1024x2048_0_0) (Finset.subset_univ _)) $$ Hy; iintro Hy
  rw [wp_ret]; imodintro
  rw [load_bWu f, store_bWu16, shapeCast_self, shapeCast_self]
  isplitl [Hx] <;> iassumption

/-- The rounded operands a block is computed from. -/
def rounded (c : Dev nD) (x : FVec F S1024x1024 .bf16) (g u : FVec F S1024x2048 .bf16) (d : FVec F S2048x1024 .bf16) : sProp 𝕄 :=
  iprop(held c cc0_scratch0 x ∗ held c cc0_scratch1 g ∗ held c cc0_scratch2 u ∗ held c cc0_scratch3 d)

theorem tri_compute (x : FVec F S1024x1024 .bf16) (g u : FVec F S1024x2048 .bf16) (d : FVec F S2048x1024 .bf16)
    (P P' : FVec F S1024x1024 .f32 → Prop) (q : Fin 8) {off : Fin 2 → ℕ} {inb : ∀ a, off a + S128x1024.size a ≤ S1024x1024.size a}
    (ho : off = ![128 * q.val, 0]) (hP : ∀ f, P f → P' (putBlk f q (blockVal (blk x q) g u d))) :
    Tri V K c iprop(rounded c x g u d ∗ outP c P) (compute off inb) iprop(rounded c x g u d ∗ outP c P') := by
  unfold Tri compute rounded outP
  simp only [Prog.lift, Prog.bind_op, Prog.bind_ret]
  iintro ⟨-, ⟨Hx, Hg, Hu, Hd⟩, ⟨%f, %hf, Ho⟩⟩
  iapply (wp_load 𝒱₀ (c : Thread nD τ) none Set.univ (m := bX16) (Finset.subset_univ _)) $$ Hx; iintro Hx
  iapply (wp_load 𝒱₀ (c : Thread nD τ) none Set.univ (m := bWg16) (Finset.subset_univ _)) $$ Hg; iintro Hg
  iapply (wp_load 𝒱₀ (c : Thread nD τ) none Set.univ (m := bWu16) (Finset.subset_univ _)) $$ Hu; iintro Hu
  iapply (wp_load 𝒱₀ (c : Thread nD τ) none Set.univ (m := bWd16) (Finset.subset_univ _)) $$ Hd; iintro Hd
  iapply (wp_load 𝒱₀ (c : Thread nD τ) none Set.univ (m := bOut) (Finset.subset_univ _)) $$ Ho; iintro Ho
  iapply (wp_place c (m := bOut) (r := Rect.unit (s := S1024x1024) off S128x1024.size inb) (Finset.subset_univ _)) $$ Ho; iintro Ho
  rw [wp_ret]; imodintro
  rw [load_bWg16 g, load_bWu16 u,
    load_bWd16 d, load_rows x q inb ho, store_blk f q _ inb ho]
  isplitl [Hx Hg Hu Hd]
  · isplitl [Hx]; · iexact Hx
    isplitl [Hg]; · iexact Hg
    isplitl [Hu] <;> iassumption
  iexists _; isplitr
  · ipureintro; exact hP f hf
  iexact Ho

/-! ## Phase one's windows -/

/-- A window's ownership, over the rectangle the loads and stores take. -/
theorem own7 (M : Memref sig .tc .vmem S7x128x1024 .bf16) (n : Fin 28) (c : Dev nD) (q : PosShare TreeShare) (X : FVec F S128x256 .bf16) :
    (owns (c : Thread nD τ) (win7 M n) q X : sProp 𝕄)
      = iprop(∃ f : M.view.ty.Contents (Elt F), ⌜(win7 M n).view.read (Elt F) f = X⌝ ∗ (M.view.loc (c : Thread nD τ) ↦[(M.access (rect7 n)).set]{q} f)) := by
  have e : (win7 M n).view.set = (M.access (rect7 n)).set := View.set_reshape _ _
  rw [← e]; rfl
theorem own6 (M : Memref sig .tc .vmem S6x32x1024 .bf16) (n : Fin 12) (c : Dev nD) (q : PosShare TreeShare) (X : FVec F S32x512 .bf16) :
    (owns (c : Thread nD τ) (win6 M n) q X : sProp 𝕄)
      = iprop(∃ f : M.view.ty.Contents (Elt F), ⌜(win6 M n).view.read (Elt F) f = X⌝ ∗ (M.view.loc (c : Thread nD τ) ↦[(M.access (rect6 n)).set]{q} f)) := by
  have e : (win6 M n).view.set = (M.access (rect6 n)).set := View.set_reshape _ _
  rw [← e]; rfl

/-- A store of a window then reads, through the window the copies take, what was stored. -/
theorem read_staged7 (M : Memref sig .tc .vmem S7x128x1024 .bf16) (n : Fin 28) (f : M.view.ty.Contents (Elt F)) (X : FVec F S128x256 .bf16) :
    (win7 M n).view.read (Elt F) ((M.access (rect7 n)).write (Elt F) f (shapeCast S1x128x256 X shapeCasts_S128x256_S1x128x256) Finset.univ) = X := by
  funext y
  show (M.access (rect7 n)).read (Elt F) _ (Shape.reshapeEquiv _ y) = X y
  rw [View.read_write_univ]
  show X (Shape.reshapeEquiv _ (Shape.reshapeEquiv _ y)) = X y
  rw [Shape.reshapeEquiv_reshapeEquiv, Shape.reshapeEquiv_self]
theorem read_staged6 (M : Memref sig .tc .vmem S6x32x1024 .bf16) (n : Fin 12) (f : M.view.ty.Contents (Elt F)) (X : FVec F S32x512 .bf16) :
    (win6 M n).view.read (Elt F) ((M.access (rect6 n)).write (Elt F) f (shapeCast S1x32x512 X shapeCasts_S32x512_S1x32x512) Finset.univ) = X := by
  funext y
  show (M.access (rect6 n)).read (Elt F) _ (Shape.reshapeEquiv _ y) = X y
  rw [View.read_write_univ]
  show X (Shape.reshapeEquiv _ (Shape.reshapeEquiv _ y)) = X y
  rw [Shape.reshapeEquiv_reshapeEquiv, Shape.reshapeEquiv_self]

theorem tri_stage1 (n : Fin 28) (P : FVec F S1024x1024 .f32 → Prop) (q : Fin 8) (h : Fin 4) (X : FVec F S128x256 .bf16)
    {off : Fin 2 → ℕ} {inb : ∀ a, off a + S128x256.size a ≤ S1024x1024.size a} (ho : off = ![128 * q.val, 256 * h.val])
    (hX : ∀ f, P f → (truncf .bf16 (quad f q h) bitsLt_bf16_f32 : FVec F S128x256 .bf16) = X) :
    Tri V K c iprop(outP c P ∗ anyAt c (win7 bS1 n)) (stage1 n off inb) iprop(outP c P ∗ owns (c : Thread nD τ) (win7 bS1 n) fullShare X) := by
  unfold Tri stage1 outP anyAt
  simp only [Prog.lift, Prog.bind_op, Prog.bind_ret]
  simp only [own7]
  iintro ⟨-, ⟨%f, %hf, Ho⟩, ⟨%Y, %g, %hg, Hs⟩⟩
  iapply (wp_load 𝒱₀ (c : Thread nD τ) none Set.univ (m := bOut) (Finset.subset_univ _)) $$ Ho; iintro Ho
  iapply (wp_load_rect 𝒱₀ (c : Thread nD τ) none Set.univ (m := bS1) (r := rect7 n) (Finset.Subset.refl _)) $$ Hs; iintro Hs
  iapply (wp_place c (m := bS1) (r := rect7 n) (Finset.Subset.refl _)) $$ Hs; iintro Hs
  rw [wp_ret]; imodintro
  rw [load_quad f q h inb ho, shapeCast_self]
  isplitl [Ho]
  · iexists f; isplitr; · ipureintro; exact hf
    iexact Ho
  iexists _; isplitr
  · ipureintro; exact (read_staged7 bS1 n g _).trans (hX f hf)
  iexact Hs

theorem tri_add1 (n : Fin 28) (P P' : FVec F S1024x1024 .f32 → Prop) (q : Fin 8) (h : Fin 4) (X : FVec F S128x256 .bf16)
    {off : Fin 2 → ℕ} {inb : ∀ a, off a + S128x256.size a ≤ S1024x1024.size a} (ho : off = ![128 * q.val, 256 * h.val])
    (hP : ∀ f, P f → P' (putQuad f q h (addf (quad f q h) (extf .f32 X bitsLt_bf16_f32)))) :
    Tri V K c iprop(outP c P ∗ owns (c : Thread nD τ) (win7 bR1 n) fullShare X) (add1 n off inb)
      iprop(outP c P' ∗ owns (c : Thread nD τ) (win7 bR1 n) fullShare X) := by
  unfold Tri add1 outP
  simp only [Prog.lift, Prog.bind_op, Prog.bind_ret]
  simp only [own7]
  iintro ⟨-, ⟨%f, %hf, Ho⟩, ⟨%g, %hg, Hs⟩⟩
  iapply (wp_load 𝒱₀ (c : Thread nD τ) none Set.univ (m := bOut) (Finset.subset_univ _)) $$ Ho; iintro Ho
  iapply (wp_load_rect 𝒱₀ (c : Thread nD τ) none Set.univ (m := bR1) (r := rect7 n) (Finset.Subset.refl _)) $$ Hs; iintro Hs
  iapply (wp_load 𝒱₀ (c : Thread nD τ) none Set.univ (m := bOut) (Finset.subset_univ _)) $$ Ho; iintro Ho
  iapply (wp_place c (m := bOut) (r := Rect.unit (s := S1024x1024) off S128x256.size inb) (Finset.subset_univ _)) $$ Ho; iintro Ho
  rw [wp_ret]; imodintro
  have hr : shapeCast S128x256 ((bR1.access (rect7 n)).read (Elt F) g) shapeCasts_S1x128x256_S128x256 = X := hg
  rw [load_quad f q h inb ho, store_quad f q h _ inb ho, shapeCast_self, hr]
  isplitl [Ho]
  · iexists _; isplitr; · ipureintro; exact hP f hf
    iexact Ho
  iexists g; isplitr; · ipureintro; exact hg
  iexact Hs

/-! ## Phase two's windows -/

theorem tri_stage2 (n : Fin 12) (P : FVec F S1024x1024 .f32 → Prop) (q : Fin 8) (u : Fin 4) (h : Fin 2) (X : FVec F S32x512 .bf16)
    {off : Fin 2 → ℕ} {inb : ∀ a, off a + S32x512.size a ≤ S1024x1024.size a} (ho : off = ![128 * q.val + 32 * u.val, 512 * h.val])
    (hX : ∀ f, P f → (truncf .bf16 (half f q u h) bitsLt_bf16_f32 : FVec F S32x512 .bf16) = X) :
    Tri V K c iprop(outP c P ∗ anyAt c (win6 bS2 n)) (stage2 n off inb) iprop(outP c P ∗ owns (c : Thread nD τ) (win6 bS2 n) fullShare X) := by
  unfold Tri stage2 outP anyAt
  simp only [Prog.lift, Prog.bind_op, Prog.bind_ret]
  simp only [own6]
  iintro ⟨-, ⟨%f, %hf, Ho⟩, ⟨%Y, %g, %hg, Hs⟩⟩
  iapply (wp_load 𝒱₀ (c : Thread nD τ) none Set.univ (m := bOut) (Finset.subset_univ _)) $$ Ho; iintro Ho
  iapply (wp_load_rect 𝒱₀ (c : Thread nD τ) none Set.univ (m := bS2) (r := rect6 n) (Finset.Subset.refl _)) $$ Hs; iintro Hs
  iapply (wp_place c (m := bS2) (r := rect6 n) (Finset.Subset.refl _)) $$ Hs; iintro Hs
  rw [wp_ret]; imodintro
  rw [load_half f q u h inb ho, shapeCast_self]
  isplitl [Ho]
  · iexists f; isplitr; · ipureintro; exact hf
    iexact Ho
  iexists _; isplitr
  · ipureintro; exact (read_staged6 bS2 n g _).trans (hX f hf)
  iexact Hs

theorem tri_add2 (n : Fin 12) (P P' : FVec F S1024x1024 .f32 → Prop) (q : Fin 8) (u : Fin 4) (h : Fin 2) (X : FVec F S32x512 .bf16)
    {off : Fin 2 → ℕ} {inb : ∀ a, off a + S32x512.size a ≤ S1024x1024.size a} (ho : off = ![128 * q.val + 32 * u.val, 512 * h.val])
    (hP : ∀ f, P f → P' (putHalf f q u h (addf (half f q u h) (extf .f32 X bitsLt_bf16_f32)))) :
    Tri V K c iprop(outP c P ∗ owns (c : Thread nD τ) (win6 bR2 n) fullShare X) (add2 n off inb)
      iprop(outP c P' ∗ owns (c : Thread nD τ) (win6 bR2 n) fullShare X) := by
  unfold Tri add2 outP
  simp only [Prog.lift, Prog.bind_op, Prog.bind_ret]
  simp only [own6]
  iintro ⟨-, ⟨%f, %hf, Ho⟩, ⟨%g, %hg, Hs⟩⟩
  iapply (wp_load 𝒱₀ (c : Thread nD τ) none Set.univ (m := bOut) (Finset.subset_univ _)) $$ Ho; iintro Ho
  iapply (wp_load_rect 𝒱₀ (c : Thread nD τ) none Set.univ (m := bR2) (r := rect6 n) (Finset.Subset.refl _)) $$ Hs; iintro Hs
  iapply (wp_load 𝒱₀ (c : Thread nD τ) none Set.univ (m := bOut) (Finset.subset_univ _)) $$ Ho; iintro Ho
  iapply (wp_place c (m := bOut) (r := Rect.unit (s := S1024x1024) off S32x512.size inb) (Finset.subset_univ _)) $$ Ho; iintro Ho
  rw [wp_ret]; imodintro
  have hr : shapeCast S32x512 ((bR2.access (rect6 n)).read (Elt F) g) shapeCasts_S1x32x512_S32x512 = X := hg
  rw [load_half f q u h inb ho, store_half f q u h _ inb ho, shapeCast_self, hr]
  isplitl [Ho]
  · iexists _; isplitr; · ipureintro; exact hP f hf
    iexact Ho
  iexists g; isplitr; · ipureintro; exact hg
  iexact Hs

theorem tri_put2 (n : Fin 12) (P P' : FVec F S1024x1024 .f32 → Prop) (q : Fin 8) (u : Fin 4) (h : Fin 2) (X : FVec F S32x512 .bf16)
    {off : Fin 2 → ℕ} {inb : ∀ a, off a + S32x512.size a ≤ S1024x1024.size a} (ho : off = ![128 * q.val + 32 * u.val, 512 * h.val])
    (hP : ∀ f, P f → P' (putHalf f q u h (extf .f32 X bitsLt_bf16_f32))) :
    Tri V K c iprop(outP c P ∗ owns (c : Thread nD τ) (win6 bR2 n) fullShare X) (put2 n off inb)
      iprop(outP c P' ∗ owns (c : Thread nD τ) (win6 bR2 n) fullShare X) := by
  unfold Tri put2 outP
  simp only [Prog.lift, Prog.bind_op, Prog.bind_ret]
  simp only [own6]
  iintro ⟨-, ⟨%f, %hf, Ho⟩, ⟨%g, %hg, Hs⟩⟩
  iapply (wp_load_rect 𝒱₀ (c : Thread nD τ) none Set.univ (m := bR2) (r := rect6 n) (Finset.Subset.refl _)) $$ Hs; iintro Hs
  iapply (wp_load 𝒱₀ (c : Thread nD τ) none Set.univ (m := bOut) (Finset.subset_univ _)) $$ Ho; iintro Ho
  iapply (wp_place c (m := bOut) (r := Rect.unit (s := S1024x1024) off S32x512.size inb) (Finset.subset_univ _)) $$ Ho; iintro Ho
  rw [wp_ret]; imodintro
  have hr : shapeCast S32x512 ((bR2.access (rect6 n)).read (Elt F) g) shapeCasts_S1x32x512_S32x512 = X := hg
  rw [store_half f q u h _ inb ho, hr]
  isplitl [Ho]
  · iexists _; isplitr; · ipureintro; exact hP f hf
    iexact Ho
  iexists g; isplitr; · ipureintro; exact hg
  iexact Hs

/-! ## Phase three's windows -/

theorem tri_stage3 (P : FVec F S1024x1024 .f32 → Prop) (q : Fin 8) (X : FVec F S128x1024 .bf16)
    {off : Fin 2 → ℕ} {inb : ∀ a, off a + S128x1024.size a ≤ S1024x1024.size a} (ho : off = ![128 * q.val, 0])
    (hX : ∀ f, P f → (truncf .bf16 (blk f q) bitsLt_bf16_f32 : FVec F S128x1024 .bf16) = X) :
    Tri V K c iprop(outP c P ∗ heldAny c cc0_scratch8) (stage3 off inb) iprop(outP c P ∗ held c cc0_scratch8 X) := by
  unfold Tri stage3 outP
  simp only [Prog.lift, Prog.bind_op, Prog.bind_ret]
  iintro ⟨-, ⟨%f, %hf, Ho⟩, ⟨%g, Hs⟩⟩
  iapply (wp_load 𝒱₀ (c : Thread nD τ) none Set.univ (m := bOut) (Finset.subset_univ _)) $$ Ho; iintro Ho
  iapply (wp_load 𝒱₀ (c : Thread nD τ) none Set.univ (m := bS3) (Finset.subset_univ _)) $$ Hs; iintro Hs
  iapply (wp_place c (m := bS3) (r := Rect.unit (s := S128x1024) ![0, 0] S128x1024.size inb_S128x1024_S128x1024_0_0) (Finset.subset_univ _)) $$ Hs; iintro Hs
  rw [wp_ret]; imodintro
  rw [load_blk f q inb ho, store_bS3, shapeCast_self, shapeCast_self, hX f hf]
  isplitl [Ho]
  · iexists f; isplitr; · ipureintro; exact hf
    iexact Ho
  iexact Hs

end Cert.KProof
-- ==== Proof.Windows.lean ====
/-
# `Windows`: a communication buffer and its windows

A buffer held whole is its windows held one by one, and the other way. The third phase reads four windows at once.
-/
module

public import proofs.«01_k».proof.Proof.Local

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles -/

/-- Quarter `h` of round `s`. -/
def q4 (s : Fin 7) (h : Fin 4) : Fin 28 := ⟨4 * s.val + h.val, by omega⟩

theorem rect7_disj (n m : Fin 28) (h : n ≠ m) : Disjoint (rect7 n).set (rect7 m).set := by
  rw [Finset.disjoint_left]
  intro i hi hj
  rw [Rect.mem_set_unit] at hi hj
  have a0 : n.val / 4 ≤ (i 0).val ∧ (i 0).val < n.val / 4 + 1 := hi 0
  have a2 : 256 * (n.val % 4) ≤ (i 2).val ∧ (i 2).val < 256 * (n.val % 4) + 256 := hi 2
  have b0 : m.val / 4 ≤ (i 0).val ∧ (i 0).val < m.val / 4 + 1 := hj 0
  have b2 : 256 * (m.val % 4) ≤ (i 2).val ∧ (i 2).val < 256 * (m.val % 4) + 256 := hj 2
  exact h (Fin.ext (by omega))
theorem rect7_cover (i : S7x128x1024.Idx) : ∃ n, i ∈ (rect7 n).set := by
  have i0 : (i 0).val < 7 := (i 0).isLt
  have i1 : (i 1).val < 128 := (i 1).isLt
  have i2 : (i 2).val < 1024 := (i 2).isLt
  refine ⟨⟨4 * (i 0).val + (i 2).val / 256, by omega⟩, Rect.mem_set_unit.2 (Fin.forall_fin_succ.2 ⟨?_, Fin.forall_fin_two.2 ⟨?_, ?_⟩⟩)⟩
  · show (4 * (i 0).val + (i 2).val / 256) / 4 ≤ (i 0).val ∧ (i 0).val < (4 * (i 0).val + (i 2).val / 256) / 4 + 1
    omega
  · show 0 ≤ (i 1).val ∧ (i 1).val < 0 + 128
    omega
  · show 256 * ((4 * (i 0).val + (i 2).val / 256) % 4) ≤ (i 2).val ∧ (i 2).val < 256 * ((4 * (i 0).val + (i 2).val / 256) % 4) + 256
    omega

theorem rect6_disj (n m : Fin 12) (h : n ≠ m) : Disjoint (rect6 n).set (rect6 m).set := by
  rw [Finset.disjoint_left]
  intro i hi hj
  rw [Rect.mem_set_unit] at hi hj
  have a0 : n.val / 2 ≤ (i 0).val ∧ (i 0).val < n.val / 2 + 1 := hi 0
  have a2 : 512 * (n.val % 2) ≤ (i 2).val ∧ (i 2).val < 512 * (n.val % 2) + 512 := hi 2
  have b0 : m.val / 2 ≤ (i 0).val ∧ (i 0).val < m.val / 2 + 1 := hj 0
  have b2 : 512 * (m.val % 2) ≤ (i 2).val ∧ (i 2).val < 512 * (m.val % 2) + 512 := hj 2
  exact h (Fin.ext (by omega))
theorem rect6_cover (i : S6x32x1024.Idx) : ∃ n, i ∈ (rect6 n).set := by
  have i0 : (i 0).val < 6 := (i 0).isLt
  have i1 : (i 1).val < 32 := (i 1).isLt
  have i2 : (i 2).val < 1024 := (i 2).isLt
  refine ⟨⟨2 * (i 0).val + (i 2).val / 512, by omega⟩, Rect.mem_set_unit.2 (Fin.forall_fin_succ.2 ⟨?_, Fin.forall_fin_two.2 ⟨?_, ?_⟩⟩)⟩
  · show (2 * (i 0).val + (i 2).val / 512) / 2 ≤ (i 0).val ∧ (i 0).val < (2 * (i 0).val + (i 2).val / 512) / 2 + 1
    omega
  · show 0 ≤ (i 1).val ∧ (i 1).val < 0 + 32
    omega
  · show 512 * ((2 * (i 0).val + (i 2).val / 512) % 2) ≤ (i 2).val ∧ (i 2).val < 512 * ((2 * (i 0).val + (i 2).val / 512) % 2) + 512
    omega

theorem rectS_disj (n m : Fin 4) (h : n ≠ m) : Disjoint (rectS n).set (rectS m).set := by
  rw [Finset.disjoint_left]
  intro i hi hj
  rw [Rect.mem_set_unit] at hi hj
  have a1 : 256 * n.val ≤ (i 1).val ∧ (i 1).val < 256 * n.val + 256 := hi 1
  have b1 : 256 * m.val ≤ (i 1).val ∧ (i 1).val < 256 * m.val + 256 := hj 1
  exact h (Fin.ext (by omega))
theorem rectS_cover (i : S128x1024.Idx) : ∃ n, i ∈ (rectS n).set := by
  have i0 : (i 0).val < 128 := (i 0).isLt
  have i1 : (i 1).val < 1024 := (i 1).isLt
  refine ⟨⟨(i 1).val / 256, by omega⟩, Rect.mem_set_unit.2 (Fin.forall_fin_two.2 ⟨?_, ?_⟩)⟩
  · show 0 ≤ (i 0).val ∧ (i 0).val < 0 + 128
    omega
  · show 256 * ((i 1).val / 256) ≤ (i 1).val ∧ (i 1).val < 256 * ((i 1).val / 256) + 256
    omega

theorem rectR_cover (s : Fin 7) (i : S7x128x1024.Idx) (hi : i ∈ (rectR s).set) : ∃ h, i ∈ (rect7 (q4 s h)).set := by
  rw [Rect.mem_set_unit] at hi
  have i0 : s.val ≤ (i 0).val ∧ (i 0).val < s.val + 1 := hi 0
  have i1 : (i 1).val < 128 := (i 1).isLt
  have i2 : (i 2).val < 1024 := (i 2).isLt
  refine ⟨⟨(i 2).val / 256, by omega⟩, Rect.mem_set_unit.2 (Fin.forall_fin_succ.2 ⟨?_, Fin.forall_fin_two.2 ⟨?_, ?_⟩⟩)⟩
  · show (4 * s.val + (i 2).val / 256) / 4 ≤ (i 0).val ∧ (i 0).val < (4 * s.val + (i 2).val / 256) / 4 + 1
    omega
  · show 0 ≤ (i 1).val ∧ (i 1).val < 0 + 128
    omega
  · show 256 * ((4 * s.val + (i 2).val / 256) % 4) ≤ (i 2).val ∧ (i 2).val < 256 * ((4 * s.val + (i 2).val / 256) % 4) + 256
    omega

/-! ## A buffer and its pieces -/

section Pieces

variable {s : Shape} {e : EltTy} {T : Type} [Fintype T] [DecidableEq T]

theorem access_disj (M : Memref sig .tc .vmem s e) {r r' : Rect s} (h : Disjoint r.set r'.set) : Disjoint (M.access r).set (M.access r').set := by
  show Disjoint (M.view.slice r).set (M.view.slice r').set
  rw [View.set_slice, View.set_slice]
  exact (Finset.disjoint_map _).2 h

theorem pieces (M : Memref sig .tc .vmem s e) (R : T → Rect s) (hd : ∀ t t', t ≠ t' → Disjoint (R t).set (R t').set)
    (hc : ∀ i, ∃ t, i ∈ (R t).set) (c : Dev nD) (q : PosShare TreeShare) (f : Buf (Elt F) (M.view.loc (c : Thread nD τ))) :
    ((M.view.loc (c : Thread nD τ) ↦[M.view.set]{q} f) : sProp 𝕄)
      = bigSep Finset.univ fun t => (M.view.loc (c : Thread nD τ) ↦[(M.access (R t)).set]{q} f) := by
  refine Eq.trans ?_ (pointsTo_biUnion (ℓ := M.view.loc (c : Thread nD τ)) (q := q) (f := f) Finset.univ (fun t => (M.access (R t)).set) fun t _ t' _ h => access_disj M (hd t t' h))
  refine congrArg (fun S : Finset (Idx (M.view.loc (c : Thread nD τ))) => ((M.view.loc (c : Thread nD τ) ↦[S]{q} f) : sProp 𝕄)) ?_
  refine Finset.ext fun i => ?_
  simp only [Finset.mem_biUnion, Finset.mem_univ, true_and]
  constructor
  · intro hi
    obtain ⟨x, -, rfl⟩ := Finset.mem_map.1 hi
    obtain ⟨t, ht⟩ := hc x
    refine ⟨t, ?_⟩
    show M.view.emb x ∈ (M.view.slice (R t)).set
    rw [View.set_slice]; exact Finset.mem_map_of_mem _ ht
  · rintro ⟨t, ht⟩
    exact View.set_slice_subset _ _ ht

theorem gather_pieces (M : Memref sig .tc .vmem s e) (R : T → Rect s) (hd : ∀ t t', t ≠ t' → Disjoint (R t).set (R t').set)
    (hc : ∀ i, ∃ t, i ∈ (R t).set) (t₀ : T) (c : Dev nD) (q : PosShare TreeShare) :
    (bigSep Finset.univ (fun t => iprop(∃ f : Buf (Elt F) (M.view.loc (c : Thread nD τ)), M.view.loc (c : Thread nD τ) ↦[(M.access (R t)).set]{q} f)) : sProp 𝕄)
      ⊢ iprop(∃ f : Buf (Elt F) (M.view.loc (c : Thread nD τ)), M.view.loc (c : Thread nD τ) ↦[M.view.set]{q} f) := by
  refine (bigSep_exists_pi Finset.univ fun t (f : Buf (Elt F) (M.view.loc (c : Thread nD τ))) => iprop(M.view.loc (c : Thread nD τ) ↦[(M.access (R t)).set]{q} f)).trans ?_
  iintro ⟨%fs, H⟩
  ihave ⟨%g, %hg, H⟩ := (pointsTo_biUnion_join Finset.univ (fun t => (M.access (R t)).set) fs (fs t₀) fun t _ t' _ h => access_disj M (hd t t' h)) $$ H
  iexists g
  rw [pieces M R hd hc c q g]
  iapply (Entails.of_eq (pointsTo_biUnion (ℓ := M.view.loc (c : Thread nD τ)) (q := q) (f := g) Finset.univ (fun t => (M.access (R t)).set) fun t _ t' _ h => access_disj M (hd t t' h))) $$ H

end Pieces

/-! ## The communication buffers -/

variable {V : Sent F} {K : Dev nD × Ck → ℕ} {c : Dev nD}

theorem any7_intro (b : Memref sig .tc .vmem S7x128x1024 .bf16) (n : Fin 28) (c : Dev nD) (f : Buf (Elt F) (b.view.loc (c : Thread nD τ))) :
    ((b.view.loc (c : Thread nD τ) ↦[(b.access (rect7 n)).set]{fullShare} f) : sProp 𝕄) ⊢ anyAt c (win7 b n) := by
  unfold anyAt; simp only [own7]
  iintro H; iexists _; iexists f; isplitr; · ipureintro; rfl
  iexact H
theorem any7_elim (b : Memref sig .tc .vmem S7x128x1024 .bf16) (n : Fin 28) (c : Dev nD) :
    (anyAt c (win7 b n) : sProp 𝕄) ⊢ iprop(∃ f : Buf (Elt F) (b.view.loc (c : Thread nD τ)), b.view.loc (c : Thread nD τ) ↦[(b.access (rect7 n)).set]{fullShare} f) := by
  unfold anyAt; simp only [own7]
  iintro ⟨%X, %f, -, H⟩; iexists f; iexact H
theorem split7 (b : Memref sig .tc .vmem S7x128x1024 .bf16) (c : Dev nD) (f : Buf (Elt F) (b.view.loc (c : Thread nD τ))) :
    ((b.view.loc (c : Thread nD τ) ↦[b.view.set]{fullShare} f) : sProp 𝕄) ⊢ bigSep Finset.univ fun n : Fin 28 => anyAt c (win7 b n) := by
  rw [pieces b rect7 rect7_disj rect7_cover]
  exact bigSep_mono fun n _ => any7_intro b n c f
theorem merge7 (b : Memref sig .tc .vmem S7x128x1024 .bf16) (c : Dev nD) :
    (bigSep Finset.univ (fun n : Fin 28 => anyAt c (win7 b n)) : sProp 𝕄)
      ⊢ iprop(∃ f : Buf (Elt F) (b.view.loc (c : Thread nD τ)), b.view.loc (c : Thread nD τ) ↦[b.view.set]{fullShare} f) :=
  (bigSep_mono fun n _ => any7_elim b n c).trans (gather_pieces b rect7 rect7_disj rect7_cover 0 c fullShare)
theorem any6_intro (b : Memref sig .tc .vmem S6x32x1024 .bf16) (n : Fin 12) (c : Dev nD) (f : Buf (Elt F) (b.view.loc (c : Thread nD τ))) :
    ((b.view.loc (c : Thread nD τ) ↦[(b.access (rect6 n)).set]{fullShare} f) : sProp 𝕄) ⊢ anyAt c (win6 b n) := by
  unfold anyAt; simp only [own6]
  iintro H; iexists _; iexists f; isplitr; · ipureintro; rfl
  iexact H
theorem any6_elim (b : Memref sig .tc .vmem S6x32x1024 .bf16) (n : Fin 12) (c : Dev nD) :
    (anyAt c (win6 b n) : sProp 𝕄) ⊢ iprop(∃ f : Buf (Elt F) (b.view.loc (c : Thread nD τ)), b.view.loc (c : Thread nD τ) ↦[(b.access (rect6 n)).set]{fullShare} f) := by
  unfold anyAt; simp only [own6]
  iintro ⟨%X, %f, -, H⟩; iexists f; iexact H
theorem split6 (b : Memref sig .tc .vmem S6x32x1024 .bf16) (c : Dev nD) (f : Buf (Elt F) (b.view.loc (c : Thread nD τ))) :
    ((b.view.loc (c : Thread nD τ) ↦[b.view.set]{fullShare} f) : sProp 𝕄) ⊢ bigSep Finset.univ fun n : Fin 12 => anyAt c (win6 b n) := by
  rw [pieces b rect6 rect6_disj rect6_cover]
  exact bigSep_mono fun n _ => any6_intro b n c f
theorem merge6 (b : Memref sig .tc .vmem S6x32x1024 .bf16) (c : Dev nD) :
    (bigSep Finset.univ (fun n : Fin 12 => anyAt c (win6 b n)) : sProp 𝕄)
      ⊢ iprop(∃ f : Buf (Elt F) (b.view.loc (c : Thread nD τ)), b.view.loc (c : Thread nD τ) ↦[b.view.set]{fullShare} f) :=
  (bigSep_mono fun n _ => any6_elim b n c).trans (gather_pieces b rect6 rect6_disj rect6_cover 0 c fullShare)

theorem ownS (M : Memref sig .tc .vmem S128x1024 .bf16) (n : Fin 4) (c : Dev nD) (q : PosShare TreeShare) (X : FVec F S128x256 .bf16) :
    (owns (c : Thread nD τ) (winS M n) q X : sProp 𝕄)
      = iprop(∃ f : M.view.ty.Contents (Elt F), ⌜(winS M n).view.read (Elt F) f = X⌝ ∗ (M.view.loc (c : Thread nD τ) ↦[(M.access (rectS n)).set]{q} f)) := rfl
theorem ownS_intro (M : Memref sig .tc .vmem S128x1024 .bf16) (n : Fin 4) (c : Dev nD) (f : Buf (Elt F) (M.view.loc (c : Thread nD τ))) (X : FVec F S128x256 .bf16)
    (hX : (winS M n).view.read (Elt F) f = X) :
    ((M.view.loc (c : Thread nD τ) ↦[(M.access (rectS n)).set]{fullShare} f) : sProp 𝕄) ⊢ owns (c : Thread nD τ) (winS M n) fullShare X := by
  rw [ownS]
  iintro H; iexists f; isplitr; · ipureintro; exact hX
  iexact H
theorem anyS_elim (M : Memref sig .tc .vmem S128x1024 .bf16) (n : Fin 4) (c : Dev nD) :
    (anyAt c (winS M n) : sProp 𝕄) ⊢ iprop(∃ f : Buf (Elt F) (M.view.loc (c : Thread nD τ)), M.view.loc (c : Thread nD τ) ↦[(M.access (rectS n)).set]{fullShare} f) := by
  unfold anyAt; simp only [ownS]
  iintro ⟨%X, %f, -, H⟩; iexists f; iexact H

/-- The third phase's staging block by quarters. -/
theorem splitS (c : Dev nD) (X : FVec F S128x1024 .bf16) :
    ((bS3.view.loc (c : Thread nD τ) ↦[bS3.view.set]{fullShare} X) : sProp 𝕄) ⊢ bigSep Finset.univ fun h : Fin 4 => owns (c : Thread nD τ) (winS bS3 h) fullShare (quarter X h) := by
  refine (Entails.of_eq (pieces bS3 rectS rectS_disj rectS_cover c fullShare X)).trans (bigSep_mono fun h _ => ?_)
  exact ownS_intro bS3 h c X _ rfl
theorem mergeS (c : Dev nD) :
    (bigSep Finset.univ (fun n : Fin 4 => anyAt c (winS bS3 n)) : sProp 𝕄)
      ⊢ iprop(∃ f : Buf (Elt F) (bS3.view.loc (c : Thread nD τ)), bS3.view.loc (c : Thread nD τ) ↦[bS3.view.set]{fullShare} f) :=
  (bigSep_mono fun n _ => anyS_elim bS3 n c).trans (gather_pieces bS3 rectS rectS_disj rectS_cover 0 c fullShare)

/-! ## Putting a received block down -/

/-- A quarter of a slot, read as one block, is the window's own reading. -/
theorem quarter_slot (g : FVec F S7x128x1024 .bf16) (s : Fin 7) (h : Fin 4) :
    quarter (shapeCast S128x1024 ((bR3.access (rectR s)).read (Elt F) g : FVec F S1x128x1024 .bf16) shapeCasts_S1x128x1024_S128x1024) h
      = (win7 bR3 (q4 s h)).view.read (Elt F) g := by
  funext y
  have hs : (4 * s.val + h.val) / 4 = s.val := by omega
  have hh : (4 * s.val + h.val) % 4 = h.val := by omega
  have e1 := Shape.reshapeEquiv_cons_one (d := ![128, 1024]) shapeCasts_S1x128x1024_S128x1024.symm ((rectS h).emb y)
  have e2 := Shape.reshapeEquiv_cons_one (d := ![128, 256]) shapeCasts_S1x128x256_S128x256.symm y
  show g ((rectR s).emb (Shape.reshapeEquiv _ ((rectS h).emb y))) = g ((rect7 (q4 s h)).emb (Shape.reshapeEquiv _ y))
  refine congrArg g ?_
  refine (congrArg (rectR s).emb e1).trans (Eq.trans ?_ (congrArg (rect7 (q4 s h)).emb e2).symm)
  refine funext fun a => Fin.ext ?_
  fin_cases a
  · show s.val + 1 * 0 = (4 * s.val + h.val) / 4 + 1 * 0
    omega
  · show 0 + 1 * (0 + 1 * (y 0).val) = 0 + 1 * (y 0).val
    omega
  · show 0 + 1 * (256 * h.val + 1 * (y 1).val) = 256 * ((4 * s.val + h.val) % 4) + 1 * (y 1).val
    omega

theorem own7_intro (M : Memref sig .tc .vmem S7x128x1024 .bf16) (n : Fin 28) (c : Dev nD) (q : PosShare TreeShare) (f : Buf (Elt F) (M.view.loc (c : Thread nD τ))) (X : FVec F S128x256 .bf16)
    (hX : (win7 M n).view.read (Elt F) f = X) :
    ((M.view.loc (c : Thread nD τ) ↦[(M.access (rect7 n)).set]{q} f) : sProp 𝕄) ⊢ owns (c : Thread nD τ) (win7 M n) q X := by
  rw [own7]
  iintro H; iexists f; isplitr; · ipureintro; exact hX
  iexact H
theorem slot_back (s : Fin 7) (g : FVec F S7x128x1024 .bf16) (sh : PosShare TreeShare) (X : Fin 4 → FVec F S128x256 .bf16)
    (hX : ∀ h, (win7 bR3 (q4 s h)).view.read (Elt F) g = X h) :
    (bigSep Finset.univ (fun h : Fin 4 => iprop(bR3.view.loc (c : Thread nD τ) ↦[(bR3.access (rect7 (q4 s h))).set]{sh} g)) : sProp 𝕄)
      ⊢ bigSep Finset.univ fun h : Fin 4 => owns (c : Thread nD τ) (win7 bR3 (q4 s h)) sh (X h) :=
  bigSep_mono fun h _ => own7_intro bR3 (q4 s h) c sh g (X h) (hX h)

theorem slot_open (s : Fin 7) (sh : PosShare TreeShare) (X : Fin 4 → FVec F S128x256 .bf16) :
    (bigSep Finset.univ (fun h : Fin 4 => owns (c : Thread nD τ) (win7 bR3 (q4 s h)) sh (X h)) : sProp 𝕄)
      ⊢ bigSep Finset.univ fun h : Fin 4 => iprop(∃ g : Buf (Elt F) (bR3.view.loc (c : Thread nD τ)), ⌜(win7 bR3 (q4 s h)).view.read (Elt F) g = X h⌝ ∗ (bR3.view.loc (c : Thread nD τ) ↦[(bR3.access (rect7 (q4 s h))).set]{sh} g)) :=
  bigSep_mono fun h _ => Entails.of_eq (own7 bR3 (q4 s h) c sh (X h))

theorem tri_put3 (s : Fin 7) (P P' : FVec F S1024x1024 .f32 → Prop) (q : Fin 8) (X : Fin 4 → FVec F S128x256 .bf16) (sh : PosShare TreeShare)
    {off : Fin 2 → ℕ} {inb : ∀ a, off a + S128x1024.size a ≤ S1024x1024.size a} (ho : off = ![128 * q.val, 0])
    (hP : ∀ f w, P f → (∀ h, quarter w h = X h) → P' (putBlk f q (extf .f32 w bitsLt_bf16_f32))) :
    Tri V K c iprop(outP c P ∗ bigSep Finset.univ fun h : Fin 4 => owns (c : Thread nD τ) (win7 bR3 (q4 s h)) sh (X h)) (put3 s off inb)
      iprop(outP c P' ∗ bigSep Finset.univ fun h : Fin 4 => owns (c : Thread nD τ) (win7 bR3 (q4 s h)) sh (X h)) := by
  unfold Tri put3 outP
  simp only [Prog.lift, Prog.bind_op, Prog.bind_ret]
  iintro ⟨-, ⟨%f, %hf, Ho⟩, Hs⟩
  ihave Hs := (slot_open s sh X) $$ Hs
  ihave ⟨%gs, Hs⟩ := (bigSep_exists_pi Finset.univ fun h (g : Buf (Elt F) (bR3.view.loc (c : Thread nD τ))) => iprop(⌜(win7 bR3 (q4 s h)).view.read (Elt F) g = X h⌝ ∗ ((bR3.view.loc (c : Thread nD τ)) ↦[(bR3.access (rect7 (q4 s h))).set]{sh} g))) $$ Hs
  ihave ⟨%hgs, Hs⟩ := (bigSep_pure_sep Finset.univ _ _) $$ Hs
  have hd : ∀ t ∈ (Finset.univ : Finset (Fin 4)), ∀ t' ∈ (Finset.univ : Finset (Fin 4)), t ≠ t' → Disjoint (bR3.access (rect7 (q4 s t))).set (bR3.access (rect7 (q4 s t'))).set :=
    fun t _ t' _ h => access_disj bR3 (rect7_disj _ _ fun e => h (Fin.ext (by have := congrArg Fin.val e; simp only [q4] at this; omega)))
  ihave ⟨%g, %hg, Hs⟩ := (pointsTo_biUnion_join Finset.univ (fun t => (bR3.access (rect7 (q4 s t))).set) gs (gs 0) hd) $$ Hs
  have hsub : (bR3.access (rectR s)).set ⊆ Finset.univ.biUnion fun t => (bR3.access (rect7 (q4 s t))).set := by
    intro i hi
    have hi' : i ∈ (rectR s).set := by rwa [← View.set_slice_whole cc0_scratch9 (rectR s)]
    obtain ⟨h, hh⟩ := rectR_cover s i hi'
    exact Finset.mem_biUnion.2 ⟨h, Finset.mem_univ _, by rwa [← View.set_slice_whole cc0_scratch9 (rect7 (q4 s h))] at hh⟩
  have hread : ∀ h, (win7 bR3 (q4 s h)).view.read (Elt F) g = X h := by
    intro h
    rw [← hgs h (Finset.mem_univ _)]
    have e : (win7 bR3 (q4 s h)).view.set = (bR3.access (rect7 (q4 s h))).set := View.set_reshape _ _
    exact View.read_congr fun i hi => hg h (Finset.mem_univ _) i (e ▸ hi)
  iapply (wp_load_rect 𝒱₀ (c : Thread nD τ) none Set.univ (m := bR3) (r := rectR s) hsub) $$ Hs; iintro Hs
  iapply (wp_load 𝒱₀ (c : Thread nD τ) none Set.univ (m := bOut) (Finset.subset_univ _)) $$ Ho; iintro Ho
  iapply (wp_place c (m := bOut) (r := Rect.unit (s := S1024x1024) off S128x1024.size inb) (Finset.subset_univ _)) $$ Ho; iintro Ho
  rw [wp_ret]; imodintro
  rw [store_blk f q _ inb ho]
  isplitl [Ho]
  · iexists putBlk f q (extf .f32 (shapeCast S128x1024 ((bR3.access (rectR s)).read (Elt F) g : FVec F S1x128x1024 .bf16) shapeCasts_S1x128x1024_S128x1024) bitsLt_bf16_f32)
    isplitr
    · ipureintro
      refine hP f (shapeCast S128x1024 ((bR3.access (rectR s)).read (Elt F) g : FVec F S1x128x1024 .bf16) shapeCasts_S1x128x1024_S128x1024) hf fun h => ?_
      rw [← hread h]
      exact quarter_slot g s h
    iexact Ho
  ihave Hs := (Entails.of_eq (pointsTo_biUnion (ℓ := bR3.view.loc (c : Thread nD τ)) (q := sh) (f := g) Finset.univ (fun t => (bR3.access (rect7 (q4 s t))).set) hd)) $$ Hs
  iapply (slot_back s g sh X hread) $$ Hs

end Cert.KProof
-- ==== Proof.Offs.lean ====
/-
# `Offs`: the offsets in closed form
-/
module

public import proofs.«01_k».proof.Proof.Local

@[expose] public section

noncomputable section

namespace Cert.KProof

open Cert.KernelIdeal Cert.KernelIdeal.Gen
open Idealize.ShloMosaic

/-- The block that round `s` of the first phase sends: the device's own, then the ones before it round the ring. -/
def rowQ (c : Dev nD) (s : ℕ) : Fin 8 := ⟨(c.val + 64 - s) % 8, Nat.mod_lt _ (by decide)⟩
/-- The sub-block that round `t` of the second phase sends, and the one it fills. -/
def subS (c : Dev nD) (t : ℕ) : Fin 4 := ⟨(c.val / 8 + 64 - t) % 4, Nat.mod_lt _ (by decide)⟩
def subR (c : Dev nD) (t : ℕ) : Fin 4 := ⟨(c.val / 8 + 63 - t) % 4, Nat.mod_lt _ (by decide)⟩

theorem at_own : ∀ c : Dev nD, k0_off1 c = ![128 * (rowQ c 0).val, 0] := by decide +kernel
theorem at_send1 : ∀ (c : Dev nD) (n : Fin 28), off1 c n = ![128 * (rowQ c (n.val / 4)).val, 256 * (n.val % 4)] := by decide +kernel
theorem at_last1 : ∀ (c : Dev nD) (h : Fin 4), off1d c h = ![128 * (rowQ c 7).val, 256 * h.val] := by decide +kernel
theorem at_next : ∀ (c : Dev nD) (s : Fin 7), k0_off6 c (BitVec.ofNat 32 s.val) = ![128 * (rowQ c (s.val + 1)).val, 0] := by decide +kernel
theorem at_send2 : ∀ (c : Dev nD) (n : Fin 12), off2 c n = ![128 * (rowQ c 7).val + 32 * (subS c (n.val / 2)).val, 512 * (n.val % 2)] := by decide +kernel
theorem at_recv2 : ∀ (c : Dev nD) (n : Fin 12), off2r c n = ![128 * (rowQ c 7).val + 32 * (subR c (n.val / 2)).val, 512 * (n.val % 2)] := by decide +kernel
theorem at_done : ∀ c : Dev nD, k0_off15 c = ![128 * (rowQ c 7).val, 0] := by decide +kernel
theorem at_gather : ∀ (c : Dev nD) (s : Fin 7), k0_off16 c (k0_off16_at s).1 (k0_off16_at s).2 = ![128 * (rowQ c s.val).val, 0] := by decide +kernel

end Cert.KProof
-- ==== Proof.Values.lean ====
/-
# `Values`: what the devices hold and send

The values of the three phases by recursion on the rounds, and the predicates of the output between two steps.
-/
module

public import proofs.«01_k».proof.Proof.Offs
public import Idealize.ShloMosaic.Lib.ValueIdx

@[expose] public section

noncomputable section

namespace Cert.KProof

open Cert.KernelIdeal Cert.KernelIdeal.Gen
open Idealize.ShloMosaic Idealize.ShloMosaic.ValueIdx

variable {F : FTy → Type} [FloatOps F]

/-! ## Windows of windows -/

section Win

variable {φ : FTy}

theorem sub_inb (u : Fin 4) (h : Fin 2) : ∀ a, (![32 * u.val, 512 * h.val] : Fin 2 → ℕ) a + S32x512.size a ≤ S128x1024.size a := by revert u h; decide

/-- Half `h` of sub-block `u` of one block. -/
def sub (f : FVec F S128x1024 φ) (u : Fin 4) (h : Fin 2) : FVec F S32x512 φ :=
  VecWindow.window (s := S128x1024) f ![32 * u.val, 512 * h.val] S32x512.size (sub_inb u h)

/-- The block with the given quarters, the block with the given halves of sub-blocks, the array with the given blocks. -/
def ofQuarters (v : Fin 4 → FVec F S128x256 φ) : FVec F S128x1024 φ := fun y =>
  v ⟨(y 1).val / 256, by have h : (y 1).val < 1024 := (y 1).isLt; omega⟩
    (ix2 (⟨(y 0).val, (y 0).isLt⟩ : Fin 128) (⟨(y 1).val % 256, Nat.mod_lt _ (by decide)⟩ : Fin 256))
def ofSubs (v : Fin 4 → Fin 2 → FVec F S32x512 φ) : FVec F S128x1024 φ := fun y =>
  v ⟨(y 0).val / 32, by have h : (y 0).val < 128 := (y 0).isLt; omega⟩ ⟨(y 1).val / 512, by have h : (y 1).val < 1024 := (y 1).isLt; omega⟩
    (ix2 (⟨(y 0).val % 32, Nat.mod_lt _ (by decide)⟩ : Fin 32) (⟨(y 1).val % 512, Nat.mod_lt _ (by decide)⟩ : Fin 512))
def ofBlocks (v : Fin 8 → FVec F S128x1024 φ) : FVec F S1024x1024 φ := fun y =>
  v ⟨(y 0).val / 128, by have h : (y 0).val < 1024 := (y 0).isLt; omega⟩
    (ix2 (⟨(y 0).val % 128, Nat.mod_lt _ (by decide)⟩ : Fin 128) (⟨(y 1).val, (y 1).isLt⟩ : Fin 1024))

theorem quarter_at (f : FVec F S128x1024 φ) (h : Fin 4) (i : Fin 128) (j : Fin 256) :
    quarter f h (ix2 i j) = f (ix2 i (⟨256 * h.val + j.val, by omega⟩ : Fin 1024)) := by
  refine congrArg f (funext fun a => Fin.ext ?_)
  fin_cases a
  · show 0 + 1 * i.val = i.val
    omega
  · show 256 * h.val + 1 * j.val = 256 * h.val + j.val
    omega
theorem sub_at (f : FVec F S128x1024 φ) (u : Fin 4) (h : Fin 2) (i : Fin 32) (j : Fin 512) :
    sub f u h (ix2 i j) = f (ix2 (⟨32 * u.val + i.val, by omega⟩ : Fin 128) (⟨512 * h.val + j.val, by omega⟩ : Fin 1024)) := by
  refine congrArg f (funext fun a => Fin.ext ?_)
  fin_cases a
  · show 32 * u.val + 1 * i.val = 32 * u.val + i.val
    omega
  · show 512 * h.val + 1 * j.val = 512 * h.val + j.val
    omega
theorem blk_at (f : FVec F S1024x1024 φ) (q : Fin 8) (i : Fin 128) (j : Fin 1024) :
    blk f q (ix2 i j) = f (ix2 (⟨128 * q.val + i.val, by omega⟩ : Fin 1024) j) := by
  refine congrArg f (funext fun a => Fin.ext ?_)
  fin_cases a
  · show 128 * q.val + 1 * i.val = 128 * q.val + i.val
    omega
  · show 0 + 1 * j.val = j.val
    omega

theorem eq_ofQuarters {f : FVec F S128x1024 φ} {v : Fin 4 → FVec F S128x256 φ} (h : ∀ j, quarter f j = v j) : f = ofQuarters v := by
  funext y
  have hy : (y 1).val < 1024 := (y 1).isLt
  show f y = v ⟨(y 1).val / 256, _⟩ _
  rw [← h, quarter_at]
  refine congrArg f (funext fun a => Fin.ext ?_)
  fin_cases a
  · rfl
  · show (y 1).val = 256 * ((y 1).val / 256) + (y 1).val % 256
    omega
theorem eq_ofSubs {f : FVec F S128x1024 φ} {v : Fin 4 → Fin 2 → FVec F S32x512 φ} (h : ∀ u j, sub f u j = v u j) : f = ofSubs v := by
  funext y
  show f y = v ⟨(y 0).val / 32, _⟩ ⟨(y 1).val / 512, _⟩ _
  rw [← h, sub_at]
  refine congrArg f (funext fun a => Fin.ext ?_)
  fin_cases a
  · show (y 0).val = 32 * ((y 0).val / 32) + (y 0).val % 32
    omega
  · show (y 1).val = 512 * ((y 1).val / 512) + (y 1).val % 512
    omega
theorem eq_ofBlocks {f : FVec F S1024x1024 φ} {v : Fin 8 → FVec F S128x1024 φ} (h : ∀ q, blk f q = v q) : f = ofBlocks v := by
  funext y
  show f y = v ⟨(y 0).val / 128, _⟩ _
  rw [← h, blk_at]
  refine congrArg f (funext fun a => Fin.ext ?_)
  fin_cases a
  · show (y 0).val = 128 * ((y 0).val / 128) + (y 0).val % 128
    omega
  · rfl

theorem quarter_ext {f g : FVec F S128x1024 φ} (h : ∀ j, quarter f j = quarter g j) : f = g :=
  (eq_ofQuarters h).trans (eq_ofQuarters fun _ => rfl).symm

theorem quad_eq (f : FVec F S1024x1024 φ) (q : Fin 8) (h : Fin 4) : quad f q h = quarter (blk f q) h := by
  funext y
  refine congrArg f (funext fun a => Fin.ext ?_)
  fin_cases a
  · show 128 * q.val + 1 * (y 0).val = 128 * q.val + 1 * (0 + 1 * (y 0).val)
    omega
  · show 256 * h.val + 1 * (y 1).val = 0 + 1 * (256 * h.val + 1 * (y 1).val)
    omega
theorem half_eq (f : FVec F S1024x1024 φ) (q : Fin 8) (u : Fin 4) (h : Fin 2) : half f q u h = sub (blk f q) u h := by
  funext y
  refine congrArg f (funext fun a => Fin.ext ?_)
  fin_cases a
  · show 128 * q.val + 32 * u.val + 1 * (y 0).val = 128 * q.val + 1 * (32 * u.val + 1 * (y 0).val)
    omega
  · show 512 * h.val + 1 * (y 1).val = 0 + 1 * (512 * h.val + 1 * (y 1).val)
    omega

theorem blk_put (f : FVec F S1024x1024 .f32) (q : Fin 8) (w : FVec F S128x1024 .f32) : blk (putBlk f q w) q = w :=
  VecWindow.window_put_same _ _ _ (blk_inb q) _
theorem blk_put_ne (f : FVec F S1024x1024 .f32) {q q' : Fin 8} (h : q' ≠ q) (w : FVec F S128x1024 .f32) : blk (putBlk f q w) q' = blk f q' :=
  VecWindow.window_put_of_disjoint _ _ _ _ _ (blk_inb q') _ 0 (by
    have : q'.val ≠ q.val := fun e => h (Fin.ext e)
    show 128 * q'.val + 128 ≤ 128 * q.val ∨ 128 * q.val + 128 ≤ 128 * q'.val
    omega)
theorem quad_put (f : FVec F S1024x1024 .f32) (q : Fin 8) (h : Fin 4) (w : FVec F S128x256 .f32) : quad (putQuad f q h w) q h = w :=
  VecWindow.window_put_same _ _ _ (quad_inb q h) _
theorem quad_put_ne (f : FVec F S1024x1024 .f32) (q : Fin 8) {h h' : Fin 4} (hh : h' ≠ h) (w : FVec F S128x256 .f32) :
    quad (putQuad f q h w) q h' = quad f q h' :=
  VecWindow.window_put_of_disjoint _ _ _ _ _ (quad_inb q h') _ 1 (by
    have : h'.val ≠ h.val := fun e => hh (Fin.ext e)
    show 256 * h'.val + 256 ≤ 256 * h.val ∨ 256 * h.val + 256 ≤ 256 * h'.val
    omega)
theorem half_put (f : FVec F S1024x1024 .f32) (q : Fin 8) (u : Fin 4) (h : Fin 2) (w : FVec F S32x512 .f32) : half (putHalf f q u h w) q u h = w :=
  VecWindow.window_put_same _ _ _ (half_inb q u h) _
theorem half_put_ne (f : FVec F S1024x1024 .f32) (q : Fin 8) {u u' : Fin 4} {h h' : Fin 2} (hh : u' ≠ u ∨ h' ≠ h) (w : FVec F S32x512 .f32) :
    half (putHalf f q u h w) q u' h' = half f q u' h' := by
  rcases hh with hh | hh
  · exact VecWindow.window_put_of_disjoint _ _ _ _ _ (half_inb q u' h') _ 0 (by
      have : u'.val ≠ u.val := fun e => hh (Fin.ext e)
      show 128 * q.val + 32 * u'.val + 32 ≤ 128 * q.val + 32 * u.val ∨ 128 * q.val + 32 * u.val + 32 ≤ 128 * q.val + 32 * u'.val
      omega)
  · exact VecWindow.window_put_of_disjoint _ _ _ _ _ (half_inb q u' h') _ 1 (by
      have : h'.val ≠ h.val := fun e => hh (Fin.ext e)
      show 512 * h'.val + 512 ≤ 512 * h.val ∨ 512 * h.val + 512 ≤ 512 * h'.val
      omega)

end Win

/-! ## The values -/

/-- What the devices start from. -/
structure Args (F : FTy → Type) where
  x : Dev nD → FVec F S1024x1024 .f32
  g : Dev nD → FVec F S1024x2048 .f32
  u : Dev nD → FVec F S1024x2048 .f32
  d : Dev nD → FVec F S2048x1024 .f32

variable (A : Args F)

abbrev x16 (c : Dev nD) : FVec F S1024x1024 .bf16 := truncf .bf16 (A.x c) bitsLt_bf16_f32
abbrev g16 (c : Dev nD) : FVec F S1024x2048 .bf16 := truncf .bf16 (A.g c) bitsLt_bf16_f32
abbrev u16 (c : Dev nD) : FVec F S1024x2048 .bf16 := truncf .bf16 (A.u c) bitsLt_bf16_f32
abbrev d16 (c : Dev nD) : FVec F S2048x1024 .bf16 := truncf .bf16 (A.d c) bitsLt_bf16_f32

/-- Device `c`'s share of block `q`. -/
def share (c : Dev nD) (q : Fin 8) : FVec F S128x1024 .f32 := blockVal (blk (x16 A c) q) (g16 A c) (u16 A c) (d16 A c)

/-- Phase one: quarter `h` of block `rowQ c s` on device `c` once the shares of `s` devices to its left are in. -/
def acc1 : ℕ → Dev nD → Fin 4 → FVec F S128x256 .f32
  | 0, c, h => quarter (share A c (rowQ c 0)) h
  | s + 1, c, h => addf (quarter (share A c (rowQ c (s + 1))) h) (extf .f32 (truncf .bf16 (acc1 s (left c) h) bitsLt_bf16_f32 : FVec F S128x256 .bf16) bitsLt_bf16_f32)

/-- The block a device finishes in phase one. -/
def fin1 (c : Dev nD) : FVec F S128x1024 .f32 := ofQuarters fun h => acc1 A 7 c h

/-- Phase two: half `h` of sub-block `u` of the device's block after `t` rounds. -/
def cur : ℕ → Dev nD → Fin 4 → Fin 2 → FVec F S32x512 .f32
  | 0, c, u, h => sub (fin1 A c) u h
  | t + 1, c, u, h =>
    if u = subR c t then
      if t < 3 then addf (cur t c u h) (extf .f32 (truncf .bf16 (cur t (down c) u h) bitsLt_bf16_f32 : FVec F S32x512 .bf16) bitsLt_bf16_f32)
      else extf .f32 (truncf .bf16 (cur t (down c) u h) bitsLt_bf16_f32 : FVec F S32x512 .bf16) bitsLt_bf16_f32
    else cur t c u h

/-- The device's block after phase two. -/
def fin2 (c : Dev nD) : FVec F S128x1024 .f32 := ofSubs fun u h => cur A 6 c u h

/-- Phase three: the block device `c` passes on in round `s`. -/
def pass3 : ℕ → Dev nD → FVec F S128x1024 .bf16
  | 0, c => truncf .bf16 (fin2 A c) bitsLt_bf16_f32
  | s + 1, c => pass3 s (left c)

/-- Block `q` of device `c`'s result: its own block as it stands, the others as they came round the ring. -/
def outBlk (c : Dev nD) (q : Fin 8) : FVec F S128x1024 .f32 :=
  if q = rowQ c 7 then fin2 A c else extf .f32 (pass3 A ((c.val + 64 - q.val) % 8 + 1) c) bitsLt_bf16_f32
def outAt (c : Dev nD) : FVec F S1024x1024 .f32 := ofBlocks (outBlk A c)

/-- What the transfers carry. -/
def sent : Sent F where
  v1 c n := truncf .bf16 (acc1 A (n.val / 4) c ⟨n.val % 4, Nat.mod_lt _ (by decide)⟩) bitsLt_bf16_f32
  v2 c n := truncf .bf16 (cur A (n.val / 2) c (subS c (n.val / 2)) ⟨n.val % 2, Nat.mod_lt _ (by decide)⟩) bitsLt_bf16_f32
  v3 c n := quarter (pass3 A (n.val / 4) c) ⟨n.val % 4, Nat.mod_lt _ (by decide)⟩

/-! ## The output between two steps -/

/-- Round `s` of phase one with `h` quarters added. -/
def J1 (c : Dev nD) (s h : ℕ) (f : FVec F S1024x1024 .f32) : Prop :=
  ∀ j : Fin 4, quad f (rowQ c (s + 1)) j = if j.val < h then acc1 A (s + 1) c j else quarter (share A c (rowQ c (s + 1))) j
/-- Round `t` of phase two with `h` halves taken in. -/
def J2 (c : Dev nD) (t h : ℕ) (f : FVec F S1024x1024 .f32) : Prop :=
  ∀ (u : Fin 4) (j : Fin 2), half f (rowQ c 7) u j = if j.val < h then cur A (t + 1) c u j else cur A t c u j
/-- Phase three with `s` blocks put down. -/
def J3 (c : Dev nD) (s : ℕ) (f : FVec F S1024x1024 .f32) : Prop :=
  blk f (rowQ c 7) = fin2 A c ∧ ∀ i, i < s → blk f (rowQ c i) = extf .f32 (pass3 A (i + 1) c) bitsLt_bf16_f32

def J0 (c : Dev nD) (f : FVec F S1024x1024 .f32) : Prop := blk f (rowQ c 0) = share A c (rowQ c 0)

theorem j0_start (c : Dev nD) (f : FVec F S1024x1024 .f32) :
    J0 A c (putBlk f (rowQ c 0) (blockVal (blk (x16 A c) (rowQ c 0)) (g16 A c) (u16 A c) (d16 A c))) := blk_put _ _ _
theorem j1_start (c : Dev nD) (s : ℕ) (f : FVec F S1024x1024 .f32) :
    J1 A c s 0 (putBlk f (rowQ c (s + 1)) (blockVal (blk (x16 A c) (rowQ c (s + 1))) (g16 A c) (u16 A c) (d16 A c))) := fun j => by
  rw [quad_eq, blk_put, if_neg (Nat.not_lt_zero _)]; rfl
theorem j1_add (c : Dev nD) (s : ℕ) (h : Fin 4) (f : FVec F S1024x1024 .f32) (hf : J1 A c s h.val f) :
    J1 A c s (h.val + 1) (putQuad f (rowQ c (s + 1)) h (addf (quad f (rowQ c (s + 1)) h)
      (extf .f32 (truncf .bf16 (acc1 A s (left c) h) bitsLt_bf16_f32 : FVec F S128x256 .bf16) bitsLt_bf16_f32))) := fun j => by
  by_cases hj : j = h
  · subst hj
    rw [quad_put, if_pos (Nat.lt_succ_self _), hf j, if_neg (lt_irrefl _)]; rfl
  · have : j.val ≠ h.val := fun e => hj (Fin.ext e)
    rw [quad_put_ne _ _ hj, hf j]
    by_cases hlt : j.val < h.val
    · rw [if_pos hlt, if_pos (by omega)]
    · rw [if_neg hlt, if_neg (by omega)]

theorem j2_start (c : Dev nD) (f : FVec F S1024x1024 .f32) (hf : J1 A c 6 4 f) : J2 A c 0 0 f := fun u j => by
  rw [half_eq, if_neg (Nat.not_lt_zero _)]
  show sub _ u j = sub (fin1 A c) u j
  rw [show blk f (rowQ c 7) = fin1 A c from eq_ofQuarters fun j => by rw [← quad_eq, hf j, if_pos j.isLt]]
theorem j2_next (c : Dev nD) (t : ℕ) (f : FVec F S1024x1024 .f32) (hf : J2 A c t 2 f) : J2 A c (t + 1) 0 f := fun u j => by
  rw [hf u j, if_pos j.isLt, if_neg (Nat.not_lt_zero _)]
theorem cur_miss (c : Dev nD) (t : ℕ) {u : Fin 4} (h : u ≠ subR c t) (j : Fin 2) : cur A (t + 1) c u j = cur A t c u j := if_neg h
theorem cur_add (c : Dev nD) (t : ℕ) (ht : t < 3) (j : Fin 2) :
    cur A (t + 1) c (subR c t) j = addf (cur A t c (subR c t) j) (extf .f32 (truncf .bf16 (cur A t (down c) (subR c t) j) bitsLt_bf16_f32 : FVec F S32x512 .bf16) bitsLt_bf16_f32) :=
  (if_pos rfl).trans (if_pos ht)
theorem cur_put (c : Dev nD) (t : ℕ) (ht : ¬ t < 3) (j : Fin 2) :
    cur A (t + 1) c (subR c t) j = extf .f32 (truncf .bf16 (cur A t (down c) (subR c t) j) bitsLt_bf16_f32 : FVec F S32x512 .bf16) bitsLt_bf16_f32 :=
  (if_pos rfl).trans (if_neg ht)
theorem j2_take (c : Dev nD) (t : ℕ) (h : Fin 2) (f : FVec F S1024x1024 .f32) (hf : J2 A c t h.val f) :
    J2 A c t (h.val + 1) (putHalf f (rowQ c 7) (subR c t) h (cur A (t + 1) c (subR c t) h)) := fun u j => by
  by_cases hj : j = h
  · subst hj
    rw [if_pos (Nat.lt_succ_self _)]
    by_cases hu : u = subR c t
    · subst hu; rw [half_put]
    · rw [half_put_ne _ _ (Or.inl hu), hf u j, if_neg (lt_irrefl _), cur_miss A c t hu]
  · have : j.val ≠ h.val := fun e => hj (Fin.ext e)
    rw [half_put_ne _ _ (Or.inr hj), hf u j]
    by_cases hlt : j.val < h.val
    · rw [if_pos hlt, if_pos (by omega)]
    · rw [if_neg hlt, if_neg (by omega)]
theorem j2_add (c : Dev nD) (t : ℕ) (ht : t < 3) (h : Fin 2) (f : FVec F S1024x1024 .f32) (hf : J2 A c t h.val f) :
    J2 A c t (h.val + 1) (putHalf f (rowQ c 7) (subR c t) h (addf (half f (rowQ c 7) (subR c t) h)
      (extf .f32 (truncf .bf16 (cur A t (down c) (subR c t) h) bitsLt_bf16_f32 : FVec F S32x512 .bf16) bitsLt_bf16_f32))) := by
  rw [hf (subR c t) h, if_neg (lt_irrefl _), ← cur_add A c t ht h]
  exact j2_take A c t h f hf
theorem j2_put (c : Dev nD) (t : ℕ) (ht : ¬ t < 3) (h : Fin 2) (f : FVec F S1024x1024 .f32) (hf : J2 A c t h.val f) :
    J2 A c t (h.val + 1) (putHalf f (rowQ c 7) (subR c t) h
      (extf .f32 (truncf .bf16 (cur A t (down c) (subR c t) h) bitsLt_bf16_f32 : FVec F S32x512 .bf16) bitsLt_bf16_f32)) := by
  rw [← cur_put A c t ht h]
  exact j2_take A c t h f hf

theorem j3_start (c : Dev nD) (f : FVec F S1024x1024 .f32) (hf : J2 A c 5 2 f) : J3 A c 0 f :=
  ⟨eq_ofSubs fun u j => by rw [← half_eq, hf u j, if_pos j.isLt], fun i hi => absurd hi (Nat.not_lt_zero _)⟩
theorem rowQ_ne (c : Dev nD) {i j : ℕ} (hi : i < 8) (hj : j < 8) (h : i ≠ j) : rowQ c i ≠ rowQ c j := fun e => by
  have := congrArg Fin.val e
  simp only [rowQ] at this
  have := lt32 c
  omega
theorem j3_put (c : Dev nD) (s : ℕ) (hs : s < 7) (f : FVec F S1024x1024 .f32) (w : FVec F S128x1024 .bf16) (hf : J3 A c s f)
    (hw : ∀ h, quarter w h = quarter (pass3 A (s + 1) c) h) : J3 A c (s + 1) (putBlk f (rowQ c s) (extf .f32 w bitsLt_bf16_f32)) := by
  rw [quarter_ext hw]
  refine ⟨by rw [blk_put_ne _ (rowQ_ne c (by omega) (by omega) (by omega)), hf.1], fun i hi => ?_⟩
  by_cases h : i = s
  · subst h; exact blk_put _ _ _
  · rw [blk_put_ne _ (rowQ_ne c (by omega) (by omega) h), hf.2 i (by omega)]
theorem j3_end (c : Dev nD) (f : FVec F S1024x1024 .f32) (hf : J3 A c 7 f) : f = outAt A c :=
  eq_ofBlocks fun q => by
    unfold outBlk
    by_cases h : q = rowQ c 7
    · rw [if_pos h, h, hf.1]
    · rw [if_neg h]
      have hc := lt32 c
      have e : rowQ c ((c.val + 64 - q.val) % 8) = q := Fin.ext (by simp only [rowQ]; omega)
      have hlt : (c.val + 64 - q.val) % 8 < 7 := by
        rcases Nat.lt_or_ge ((c.val + 64 - q.val) % 8) 7 with h' | h'
        · exact h'
        · have h7 : (c.val + 64 - q.val) % 8 = 7 := by omega
          rw [h7] at e; exact absurd e.symm h
      rw [← hf.2 _ hlt, e]

end Cert.KProof
-- ==== Proof.Transfers.lean ====
/-
# `Transfers`: one transfer from its start to its end

Before it starts a device has a transfer's two duties, its two cells' rounds still to come, and the windows it needs; on
the way it has the two rounds and the credit for them; at the end both rounds are over and the windows are back.
-/
module

public import proofs.«01_k».proof.Proof.Windows
public import proofs.«01_k».proof.Proof.Values
public import Idealize.ShloMosaic.Lib.StableHlo.CollectiveRules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Chains of `∗` that differ in order and bracketing alone are equal. -/
instance starComm : _root_.Std.Commutative (α := sProp 𝕄) BIBase.sep := ⟨fun P Q => equiv_iff.mp ⟨Idealize.SL.BI.sep_comm, Idealize.SL.BI.sep_comm⟩⟩
instance starAssoc : _root_.Std.Associative (α := sProp 𝕄) BIBase.sep := ⟨fun P Q R => equiv_iff.mp ⟨Idealize.SL.BI.sep_assoc, Idealize.SL.BI.sep_assoc'⟩⟩

variable {V : Sent F} {K : Dev nD × Ck → ℕ} {c : Dev nD}

theorem Tri.within {P P' Q Q' : sProp 𝕄} {p : Act F PUnit} (h : Tri V K c P p Q) (R : sProp 𝕄) (e₁ : P' = iprop(P ∗ R)) (e₂ : iprop(Q ∗ R) = Q') :
    Tri V K c P' p Q' := (h.frame R).conseq (Entails.of_eq e₁) (Entails.of_eq e₂)

/-! ## What a device has of a transfer -/

/-- The two duties: a transfer's send cell and the target's receive cell. -/
def duty (c : Dev nD) (t : Xf) : sProp 𝕄 := iprop(dutyTok ER (scell c t) 0 0 ∗ dutyTok ER (rcell (tgt t c) t) 0 0)
/-- The rounds of the device's two cells, and the credit for what comes to it. -/
def fresh (c : Dev nD) (t : Xf) : sProp 𝕄 :=
  iprop(atPos ER (scell c t) 0 ∅ 0 ∗ atPos ER (rcell c t) 0 ∅ 0 ∗ cred (tallyAt (rcell c t) () (amt t)))
/-- Both rounds over. -/
def spent (c : Dev nD) (t : Xf) : sProp 𝕄 := iprop(atPos ER (scell c t) 1 ∅ 0 ∗ atPos ER (rcell c t) 1 ∅ 0)
/-- The window that the first two phases round into. -/
def slot (c : Dev nD) : Xf → sProp 𝕄
  | .inl n => anyAt (F := F) c (win7 bS1 n) | .inr (.inl n) => anyAt c (win6 bS2 n) | .inr (.inr n) => iprop(emp)
def idle (c : Dev nD) (t : Xf) : sProp 𝕄 := iprop(duty (F := F) c t ∗ fresh c t ∗ landing (tgt t c) t ∗ slot c t)
def going (c : Dev nD) (t : Xf) : sProp 𝕄 := iprop(fresh (F := F) c t ∗ cred (tallyAt (scell c t) () (amt t)))
/-- Between the two waits. -/
def got (c : Dev nD) (t : Xf) : sProp 𝕄 :=
  iprop(atPos ER (scell c t) 0 ∅ 0 ∗ cred (tallyAt (scell c t) () (amt t)) ∗ atPos ER (rcell c t) 1 ∅ 0)

/-- The wait for what comes. -/
theorem tri_arrive (t : Xf) (w : TpuEff nD τ sig (Elt F) Λ₀ .tc PUnit) (b : ℕ) (hb : b ≤ 68) (ht : num t < b)
    (hw : ∀ Z : PUnit → sProp 𝕄, wpE (defs₀ (F := F)) 𝒱₀ (c : Thread nD τ) none Set.univ w Z = waitSpec (c : Thread nD τ) Set.univ (.dma (rsem t)) (amt t) Z) :
    Tri V K c iprop(owesAny c (owed c b) ∗ going c t) (Prog.lift w) iprop(owesAny c (owed c b) ∗ got c t ∗ recvPay V c t) :=
  (tri_wait (.inr t) w b hb (by show 2 + num t < b + 2; omega) hw).within
    iprop(atPos ER (scell c t) 0 ∅ 0 ∗ cred (tallyAt (scell c t) () (amt t)))
    (by unfold going fresh; show iprop(_ ∗ (_ ∗ _ ∗ _) ∗ _) = iprop((_ ∗ cred (tallyAt (rcell c t) () (amt t)) ∗ atPos ER (rcell c t) 0 ∅ 0) ∗ _); ac_rfl)
    (by unfold got; show iprop((_ ∗ atPos ER (rcell c t) 1 ∅ 0 ∗ recvPay V c t) ∗ _) = _; ac_rfl)

/-- The wait for the source to be free. -/
theorem tri_depart (t : Xf) (w : TpuEff nD τ sig (Elt F) Λ₀ .tc PUnit) (b : ℕ) (hb : b ≤ 68) (ht : num t < b)
    (hw : ∀ Z : PUnit → sProp 𝕄, wpE (defs₀ (F := F)) 𝒱₀ (c : Thread nD τ) none Set.univ w Z = waitSpec (c : Thread nD τ) Set.univ (.dma (ssem t)) (amt t) Z) :
    Tri V K c iprop(owesAny c (owed c b) ∗ got c t) (Prog.lift w) iprop(owesAny c (owed c b) ∗ spent c t ∗ sendPay V c t) :=
  (tri_wait (.inl t) w b hb (by show 2 + num t < b + 2; omega) hw).within
    iprop(atPos ER (rcell c t) 1 ∅ 0)
    (by unfold got; show iprop(_ ∗ _ ∗ _ ∗ _) = iprop((_ ∗ cred (tallyAt (scell c t) () (amt t)) ∗ atPos ER (scell c t) 0 ∅ 0) ∗ _); ac_rfl)
    (by unfold spent; show iprop((_ ∗ atPos ER (scell c t) 1 ∅ 0 ∗ sendPay V c t) ∗ _) = _; ac_rfl)

theorem tri_waitR1 (n : Fin 28) (b : ℕ) (hb : b ≤ 68) (hn : n.val < b) :
    Tri V K c iprop(owesAny c (owed c b) ∗ going c (.inl n)) (waitR1 n) iprop(owesAny c (owed c b) ∗ got c (.inl n) ∗ owns (c : Thread nD τ) (win7 bR1 n) fullShare (V.v1 (left c) n)) :=
  tri_arrive (.inl n) _ b hb hn fun Z => wpE_waitDma2_eq 𝒱₀ (c : Thread nD τ) none Set.univ Z
theorem tri_waitS1 (n : Fin 28) (b : ℕ) (hb : b ≤ 68) (hn : n.val < b) :
    Tri V K c iprop(owesAny c (owed c b) ∗ got c (.inl n)) (waitS1 n) iprop(owesAny c (owed c b) ∗ spent c (.inl n) ∗ owns (c : Thread nD τ) (win7 bS1 n) fullShare (V.v1 c n)) :=
  tri_depart (.inl n) _ b hb hn fun Z => wpE_waitDma2_eq 𝒱₀ (c : Thread nD τ) none Set.univ Z
theorem tri_waitR2 (n : Fin 12) (b : ℕ) (hb : b ≤ 68) (hn : 28 + n.val < b) :
    Tri V K c iprop(owesAny c (owed c b) ∗ going c (.inr (.inl n))) (waitR2 n) iprop(owesAny c (owed c b) ∗ got c (.inr (.inl n)) ∗ owns (c : Thread nD τ) (win6 bR2 n) fullShare (V.v2 (down c) n)) :=
  tri_arrive (.inr (.inl n)) _ b hb hn fun Z => wpE_waitDma2_eq 𝒱₀ (c : Thread nD τ) none Set.univ Z
theorem tri_waitS2 (n : Fin 12) (b : ℕ) (hb : b ≤ 68) (hn : 28 + n.val < b) :
    Tri V K c iprop(owesAny c (owed c b) ∗ got c (.inr (.inl n))) (waitS2 n) iprop(owesAny c (owed c b) ∗ spent c (.inr (.inl n)) ∗ owns (c : Thread nD τ) (win6 bS2 n) fullShare (V.v2 c n)) :=
  tri_depart (.inr (.inl n)) _ b hb hn fun Z => wpE_waitDma2_eq 𝒱₀ (c : Thread nD τ) none Set.univ Z
theorem tri_waitR3 (n : Fin 28) (b : ℕ) (hb : b ≤ 68) (hn : 40 + n.val < b) :
    Tri V K c iprop(owesAny c (owed c b) ∗ going c (.inr (.inr n))) (waitR3 n) iprop(owesAny c (owed c b) ∗ got c (.inr (.inr n)) ∗ owns (c : Thread nD τ) (win7 bR3 n) fullShare (V.v3 (left c) n)) :=
  tri_arrive (.inr (.inr n)) _ b hb hn fun Z => wpE_waitDma2_eq 𝒱₀ (c : Thread nD τ) none Set.univ Z
theorem tri_waitS3 (n : Fin 28) (b : ℕ) (hb : b ≤ 68) (hn : 40 + n.val < b) :
    Tri V K c iprop(owesAny c (owed c b) ∗ got c (.inr (.inr n))) (waitS3 n) iprop(owesAny c (owed c b) ∗ spent c (.inr (.inr n)) ∗ src3 c n (V.v3 c n)) :=
  tri_depart (.inr (.inr n)) _ b hb hn fun Z => wpE_waitDma2_eq 𝒱₀ (c : Thread nD τ) none Set.univ Z

theorem recv1 (n : Fin 28) : (owns (right c : Thread nD τ) (win7 bR1 n) fullShare (V.v1 c n) : sProp 𝕄) = recvPay V (right c) (.inl n) := by
  show _ = (owns (right c : Thread nD τ) (win7 bR1 n) fullShare (V.v1 (left (right c)) n) : sProp 𝕄)
  rw [left_right]
theorem recv2 (n : Fin 12) : (owns (up c : Thread nD τ) (win6 bR2 n) fullShare (V.v2 c n) : sProp 𝕄) = recvPay V (up c) (.inr (.inl n)) := by
  show _ = (owns (up c : Thread nD τ) (win6 bR2 n) fullShare (V.v2 (down (up c)) n) : sProp 𝕄)
  rw [down_up]
theorem recv3 (n : Fin 28) : (owns (right c : Thread nD τ) (win7 bR3 n) fullShare (V.v3 c n) : sProp 𝕄) = recvPay V (right c) (.inr (.inr n)) := by
  show _ = (owns (right c : Thread nD τ) (win7 bR3 n) fullShare (V.v3 (left (right c)) n) : sProp 𝕄)
  rw [left_right]

theorem src3_lo (h : Fin 4) (hlt : h.val < 28) (X : FVec F S128x256 .bf16) :
    (src3 c ⟨h.val, hlt⟩ X : sProp 𝕄) = owns (c : Thread nD τ) (winS bS3 h) fullShare X := dif_pos h.isLt
theorem src3_hi (m : Fin 28) (hlt : m.val + 4 < 28) (X : FVec F S128x256 .bf16) :
    (src3 c ⟨m.val + 4, hlt⟩ X : sProp 𝕄) = owns (c : Thread nD τ) (win7 bR3 m) fullShare.right X :=
  dif_neg (show ¬ m.val + 4 < 4 by omega)

theorem tri_send1 (n : Fin 28) :
    Tri V K c iprop(owesAny c (owed c n.val) ∗ duty c (.inl n) ∗ fresh c (.inl n) ∗ anyAt (right c) (win7 bR1 n) ∗ owns (c : Thread nD τ) (win7 bS1 n) fullShare (V.v1 c n))
      (send1 (devR c) n) iprop(owesAny c (owed c (n.val + 1)) ∗ going c (.inl n)) :=
  (tri_send (.inl n) (devR c) (devR_eq c) (win7 bS1 n) (win7 bR1 n) (V.v1 c n) fullShare rfl (Entails.refl _)
      (Entails.of_eq (recv1 n))).within (fresh c (.inl n))
    (by unfold duty; show _ = iprop((owesAny c (owed c n.val) ∗ owns (c : Thread nD τ) (win7 bS1 n) fullShare (V.v1 c n) ∗ anyAt (right c) (win7 bR1 n) ∗ _ ∗ _) ∗ _); ac_rfl)
    (by unfold going; show iprop((owesAny c (owed c (n.val + 1)) ∗ _) ∗ _) = _; ac_rfl)
theorem tri_send2 (n : Fin 12) :
    Tri V K c iprop(owesAny c (owed c (28 + n.val)) ∗ duty c (.inr (.inl n)) ∗ fresh c (.inr (.inl n)) ∗ anyAt (up c) (win6 bR2 n) ∗ owns (c : Thread nD τ) (win6 bS2 n) fullShare (V.v2 c n))
      (send2 (devU c) n) iprop(owesAny c (owed c (28 + n.val + 1)) ∗ going c (.inr (.inl n))) :=
  (tri_send (.inr (.inl n)) (devU c) (devU_eq c) (win6 bS2 n) (win6 bR2 n) (V.v2 c n) fullShare rfl (Entails.refl _)
      (Entails.of_eq (recv2 n))).within (fresh c (.inr (.inl n)))
    (by unfold duty; show _ = iprop((owesAny c (owed c (28 + n.val)) ∗ owns (c : Thread nD τ) (win6 bS2 n) fullShare (V.v2 c n) ∗ anyAt (up c) (win6 bR2 n) ∗ _ ∗ _) ∗ _); ac_rfl)
    (by unfold going; show iprop((owesAny c (owed c (28 + n.val + 1)) ∗ _) ∗ _) = _; ac_rfl)

/-- The two starts of phase three differ in the window they send. -/
theorem tri_send3a (h : Fin 4) (n : Fin 28) (hn : n.val = h.val) :
    Tri V K c iprop(owesAny c (owed c (40 + n.val)) ∗ duty c (.inr (.inr n)) ∗ fresh c (.inr (.inr n)) ∗ anyAt (right c) (win7 bR3 n) ∗ owns (c : Thread nD τ) (winS bS3 h) fullShare (V.v3 c n))
      (send3a (devR c) h n) iprop(owesAny c (owed c (40 + n.val + 1)) ∗ going c (.inr (.inr n))) :=
  (tri_send (.inr (.inr n)) (devR c) (devR_eq c) (winS bS3 h) (win7 bR3 n) (V.v3 c n) fullShare rfl
      (by
        obtain ⟨n, hlt⟩ := n
        obtain rfl : n = h.val := hn
        exact Entails.of_eq (src3_lo h hlt _).symm)
      (Entails.of_eq (recv3 n))).within (fresh c (.inr (.inr n)))
    (by unfold duty; show _ = iprop((owesAny c (owed c (40 + n.val)) ∗ owns (c : Thread nD τ) (winS bS3 h) fullShare (V.v3 c n) ∗ anyAt (right c) (win7 bR3 n) ∗ _ ∗ _) ∗ _); ac_rfl)
    (by unfold going; show iprop((owesAny c (owed c (40 + n.val + 1)) ∗ _) ∗ _) = _; ac_rfl)
theorem tri_send3b (m n : Fin 28) (hn : n.val = m.val + 4) :
    Tri V K c iprop(owesAny c (owed c (40 + n.val)) ∗ duty c (.inr (.inr n)) ∗ fresh c (.inr (.inr n)) ∗ anyAt (right c) (win7 bR3 n) ∗ owns (c : Thread nD τ) (win7 bR3 m) fullShare.right (V.v3 c n))
      (send3b (devR c) m n) iprop(owesAny c (owed c (40 + n.val + 1)) ∗ going c (.inr (.inr n))) :=
  (tri_send (.inr (.inr n)) (devR c) (devR_eq c) (win7 bR3 m) (win7 bR3 n) (V.v3 c n) fullShare.right rfl
      (by
        obtain ⟨n, hlt⟩ := n
        obtain rfl : n = m.val + 4 := hn
        exact Entails.of_eq (src3_hi m hlt _).symm)
      (Entails.of_eq (recv3 n))).within (fresh c (.inr (.inr n)))
    (by unfold duty; show _ = iprop((owesAny c (owed c (40 + n.val)) ∗ owns (c : Thread nD τ) (win7 bR3 m) fullShare.right (V.v3 c n) ∗ anyAt (right c) (win7 bR3 n) ∗ _ ∗ _) ∗ _); ac_rfl)
    (by unfold going; show iprop((owesAny c (owed c (40 + n.val + 1)) ∗ _) ∗ _) = _; ac_rfl)

/-! ## A phase's transfers together -/

section Stages

variable {N : ℕ} {A B : sProp (MT nD τ sig Unit (Elt F) ℕ UU ℕ)} {p : Act F PUnit}

/-- A step that changes what one member of a family has. -/
theorem Tri.swap (Φ : Fin N → sProp 𝕄) (j : Fin N) (Y : sProp 𝕄) (h : Tri V K c iprop(A ∗ Φ j) p iprop(B ∗ Y)) :
    Tri V K c iprop(A ∗ bigSep Finset.univ Φ) p iprop(B ∗ bigSep Finset.univ (Function.update Φ j Y)) :=
  h.within (bigSep (Finset.univ.erase j) Φ) (by rw [bigSep_univ_split j]; ac_rfl) (by
    rw [bigSep_univ_split j (Φ := Function.update Φ j Y), Function.update_self,
      bigSep_congr (s := Finset.univ.erase j) (Φ := Function.update Φ j Y) (Ψ := Φ) fun i hi => Function.update_of_ne (Finset.ne_of_mem_erase hi) _ _]
    ac_rfl)

/-- Below `a` ended, from there below `b` under way, the others still to start. -/
def stat (X Y Z : Fin N → sProp 𝕄) (a b : ℕ) (n : Fin N) : sProp 𝕄 := if n.val < a then Z n else if n.val < b then Y n else X n
abbrev stages (X Y Z : Fin N → sProp 𝕄) (a b : ℕ) : sProp 𝕄 := bigSep Finset.univ (stat X Y Z a b)

variable {X Y Z : Fin N → sProp (MT nD τ sig Unit (Elt F) ℕ UU ℕ)} {a b : ℕ}

theorem stat_end {j : Fin N} (h : j.val < a) : stat X Y Z a b j = Z j := if_pos h
theorem stat_way {j : Fin N} (h : ¬ j.val < a) (h' : j.val < b) : stat X Y Z a b j = Y j := (if_neg h).trans (if_pos h')
theorem stat_start {j : Fin N} (h : ¬ j.val < a) (h' : ¬ j.val < b) : stat X Y Z a b j = X j := (if_neg h).trans (if_neg h')

theorem stat_take (j : Fin N) (ha : j.val = a) : Function.update (stat X Y Z a b) j (Z j) = stat X Y Z (a + 1) b := by
  funext i
  by_cases h : i = j
  · subst h; rw [Function.update_self, stat_end (by omega)]
  · have hv : i.val ≠ j.val := fun e => h (Fin.ext e)
    rw [Function.update_of_ne h]
    unfold stat
    by_cases h1 : i.val < a
    · rw [if_pos h1, if_pos (by omega)]
    · rw [if_neg h1, if_neg (show ¬ i.val < a + 1 by omega)]
theorem stat_pass (j : Fin N) (hb : j.val = b) (hab : a ≤ b) : Function.update (stat X Y Z a b) j (Y j) = stat X Y Z a (b + 1) := by
  funext i
  by_cases h : i = j
  · subst h; rw [Function.update_self, stat_way (by omega) (by omega)]
  · have hv : i.val ≠ j.val := fun e => h (Fin.ext e)
    rw [Function.update_of_ne h]
    unfold stat
    by_cases h1 : i.val < a
    · rw [if_pos h1, if_pos h1]
    · rw [if_neg h1, if_neg h1]
      by_cases h2 : i.val < b
      · rw [if_pos h2, if_pos (by omega)]
      · rw [if_neg h2, if_neg (by omega)]

theorem Tri.take (j : Fin N) (ha : j.val = a) (hb : j.val < b) (h : Tri V K c iprop(A ∗ Y j) p iprop(B ∗ Z j)) :
    Tri V K c iprop(A ∗ stages X Y Z a b) p iprop(B ∗ stages X Y Z (a + 1) b) := by
  have e := Tri.swap (stat X Y Z a b) j (Z j) (by rw [stat_way (by omega) hb]; exact h)
  rwa [stat_take j ha] at e
theorem Tri.pass (j : Fin N) (hb : j.val = b) (hab : a ≤ b) (h : Tri V K c iprop(A ∗ X j) p iprop(B ∗ Y j)) :
    Tri V K c iprop(A ∗ stages X Y Z a b) p iprop(B ∗ stages X Y Z a (b + 1)) := by
  have e := Tri.swap (stat X Y Z a b) j (Y j) (by rw [stat_start (by omega) (by omega)]; exact h)
  rwa [stat_pass j hb hab] at e

end Stages

end Cert.KProof
-- ==== Proof.Phases.lean ====
/-
# `Phases`: the three phases on one device

Each phase takes its transfers from all to be started to all ended, and the output from one predicate of `Values` to the next.
-/
module

public import proofs.«01_k».proof.Proof.Transfers

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) {K : Dev nD × Ck → ℕ} {c : Dev nD}

/-! ## The values of the transfers by round and part -/

theorem sent1 (n : Fin 28) (s h : ℕ) (hh : h < 4) (hn : n.val = 4 * s + h) : (sent A).v1 c n = truncf .bf16 (acc1 A s c ⟨h, hh⟩) bitsLt_bf16_f32 := by
  have e1 : n.val / 4 = s := by omega
  have e2 : (⟨n.val % 4, Nat.mod_lt _ (by decide)⟩ : Fin 4) = ⟨h, hh⟩ := Fin.ext (by show n.val % 4 = h; omega)
  show (truncf .bf16 (acc1 A (n.val / 4) c ⟨n.val % 4, _⟩) bitsLt_bf16_f32 : FVec F S128x256 .bf16) = _
  rw [e1, e2]
theorem sent2 (n : Fin 12) (t h : ℕ) (hh : h < 2) (hn : n.val = 2 * t + h) : (sent A).v2 c n = truncf .bf16 (cur A t c (subS c t) ⟨h, hh⟩) bitsLt_bf16_f32 := by
  have e1 : n.val / 2 = t := by omega
  have e2 : (⟨n.val % 2, Nat.mod_lt _ (by decide)⟩ : Fin 2) = ⟨h, hh⟩ := Fin.ext (by show n.val % 2 = h; omega)
  show (truncf .bf16 (cur A (n.val / 2) c (subS c (n.val / 2)) ⟨n.val % 2, _⟩) bitsLt_bf16_f32 : FVec F S32x512 .bf16) = _
  rw [e1, e2]
theorem sent3 (n : Fin 28) (s h : ℕ) (hh : h < 4) (hn : n.val = 4 * s + h) : (sent A).v3 c n = quarter (pass3 A s c) ⟨h, hh⟩ := by
  have e1 : n.val / 4 = s := by omega
  have e2 : (⟨n.val % 4, Nat.mod_lt _ (by decide)⟩ : Fin 4) = ⟨h, hh⟩ := Fin.ext (by show n.val % 4 = h; omega)
  show quarter (pass3 A (n.val / 4) c) ⟨n.val % 4, _⟩ = _
  rw [e1, e2]

theorem off1_eq (n : Fin 28) (s h : ℕ) (hh : h < 4) (hn : n.val = 4 * s + h) : off1 c n = ![128 * (rowQ c s).val, 256 * (⟨h, hh⟩ : Fin 4).val] := by
  rw [at_send1, show n.val / 4 = s by omega, show n.val % 4 = h by omega]
theorem off2_eq (n : Fin 12) (t h : ℕ) (hh : h < 2) (hn : n.val = 2 * t + h) :
    off2 c n = ![128 * (rowQ c 7).val + 32 * (subS c t).val, 512 * (⟨h, hh⟩ : Fin 2).val] := by
  rw [at_send2, show n.val / 2 = t by omega, show n.val % 2 = h by omega]
theorem off2r_eq (n : Fin 12) (t h : ℕ) (hh : h < 2) (hn : n.val = 2 * t + h) :
    off2r c n = ![128 * (rowQ c 7).val + 32 * (subR c t).val, 512 * (⟨h, hh⟩ : Fin 2).val] := by
  rw [at_recv2, show n.val / 2 = t by omega, show n.val % 2 = h by omega]
theorem sub_down (t : ℕ) (ht : t < 60) : subS (down c) t = subR c t := Fin.ext (by
  have := lt32 c
  show ((c.val + 24) % 32 / 8 + 64 - t) % 4 = (c.val / 8 + 63 - t) % 4
  omega)

/-! ## Phase one -/

def idle1 (c : Dev nD) (n : Fin 28) : sProp 𝕄 := idle (F := F) c (.inl n)
def going1 (c : Dev nD) (n : Fin 28) : sProp 𝕄 := going (F := F) c (.inl n)
def back1 (c : Dev nD) (n : Fin 28) : sProp 𝕄 :=
  iprop(spent c (.inl n) ∗ owns (c : Thread nD τ) (win7 bS1 n) fullShare ((sent A).v1 c n) ∗ owns (c : Thread nD τ) (win7 bR1 n) fullShare ((sent A).v1 (left c) n))
/-- What is owed, and the output at contents of which `P` holds. -/
def front (c : Dev nD) (b : ℕ) (P : FVec F S1024x1024 .f32 → Prop) : sProp 𝕄 := iprop(owesAny c (owed c b) ∗ outP c P)
def S1 (c : Dev nD) (P : FVec F S1024x1024 .f32 → Prop) (a b : ℕ) : sProp 𝕄 :=
  iprop(front c b P ∗ stages (idle1 c) (going1 c) (back1 A c) a b)

theorem front_mono {b : ℕ} {P Q : FVec F S1024x1024 .f32 → Prop} (h : ∀ f, P f → Q f) : (front c b P : sProp 𝕄) ⊢ front c b Q := by
  unfold front
  exact sep_mono_right (outP_mono h)

/-- The take-in of a transfer of phase one. -/
def takein1 (n : Fin 28) (off : Fin 2 → ℕ) (inb : ∀ a, off a + S128x256.size a ≤ S1024x1024.size a) : Act F PUnit := do
  waitR1 n
  add1 n off inb
  waitS1 n
def passon1 (c : Dev nD) (n : Fin 28) (off : Fin 2 → ℕ) (inb : ∀ a, off a + S128x256.size a ≤ S1024x1024.size a) : Act F PUnit := do
  stage1 n off inb
  send1 (devR c) n

theorem tri_takein1 (n : Fin 28) (s h : ℕ) (hh : h < 4) (hn : n.val = 4 * s + h) (b : ℕ) (hb : b ≤ 68) (hlt : n.val < b)
    {off : Fin 2 → ℕ} {inb : ∀ a, off a + S128x256.size a ≤ S1024x1024.size a} (ho : off = ![128 * (rowQ c (s + 1)).val, 256 * (⟨h, hh⟩ : Fin 4).val]) :
    Tri (sent A) K c iprop(front c b (J1 A c s h) ∗ going1 c n) (takein1 n off inb) iprop(front c b (J1 A c s (h + 1)) ∗ back1 A c n) := by
  unfold takein1 front going1 back1
  refine Tri.seq ((tri_waitR1 n b hb hlt).within (outP c (J1 A c s h)) (by ac_rfl) rfl) (Tri.seq (Tri.within
    (tri_add1 n (J1 A c s h) (J1 A c s (h + 1)) (rowQ c (s + 1)) ⟨h, hh⟩ ((sent A).v1 (left c) n) ho fun f hf => by
      rw [sent1 A n s h hh hn]; exact j1_add A c s ⟨h, hh⟩ f hf) iprop(owesAny c (owed c b) ∗ got c (.inl n)) (by ac_rfl) rfl)
    ((tri_waitS1 n b hb hlt).within iprop(outP c (J1 A c s (h + 1)) ∗ owns (c : Thread nD τ) (win7 bR1 n) fullShare ((sent A).v1 (left c) n)) (by ac_rfl) (by ac_rfl)))

theorem tri_passon1 (n : Fin 28) (P : FVec F S1024x1024 .f32 → Prop) (s h : ℕ) (hh : h < 4) (hn : n.val = 4 * s + h)
    {off : Fin 2 → ℕ} {inb : ∀ a, off a + S128x256.size a ≤ S1024x1024.size a} (ho : off = ![128 * (rowQ c s).val, 256 * (⟨h, hh⟩ : Fin 4).val])
    (hP : ∀ f, P f → quad f (rowQ c s) ⟨h, hh⟩ = acc1 A s c ⟨h, hh⟩) :
    Tri (sent A) K c iprop(front c n.val P ∗ idle1 c n) (passon1 c n off inb) iprop(front c (n.val + 1) P ∗ going1 c n) := by
  unfold passon1 front going1 idle1
  refine Tri.seq (Tri.within
    (tri_stage1 n P (rowQ c s) ⟨h, hh⟩ ((sent A).v1 c n) ho fun f hf => by rw [sent1 A n s h hh hn, hP f hf])
      iprop(owesAny c (owed c n.val) ∗ duty c (.inl n) ∗ fresh c (.inl n) ∗ anyAt (right c) (win7 bR1 n))
      (by unfold idle; show _ = iprop((_ ∗ slot c (.inl n)) ∗ _ ∗ _ ∗ _ ∗ landing (tgt (.inl n) c) (.inl n)); ac_rfl) rfl)
    ((tri_send1 n).within (outP c P) (by ac_rfl) (by ac_rfl))

theorem tri_p1first (h : ℕ) (hh : h < 4) : Tri (sent A) K c (S1 A c (J0 A c) 0 h) (p1first c ⟨h, hh⟩) (S1 A c (J0 A c) 0 (h + 1)) := by
  unfold S1
  exact Tri.pass (⟨h, by omega⟩ : Fin 28) rfl (Nat.zero_le _) (tri_passon1 A ⟨h, by omega⟩ (J0 A c) 0 h hh (by show h = _; omega)
    (off1_eq _ 0 h hh (by show h = _; omega)) fun f hf => by rw [quad_eq, show blk f (rowQ c 0) = _ from hf]; rfl)

theorem p1next_eq (c : Dev nD) (k : Fin 24) : (p1next c k : Act F PUnit)
    = takein1 ⟨k.val, by omega⟩ (off1 c ⟨k.val + 4, by omega⟩) (off1_inb c _) >>= fun _ => passon1 c ⟨k.val + 4, by omega⟩ (off1 c ⟨k.val + 4, by omega⟩) (off1_inb c _) := by
  unfold p1next takein1 passon1
  simp only [bind_assoc]

theorem tri_p1next (k : Fin 24) (s h : ℕ) (hh : h < 4) (hk : k.val = 4 * s + h) :
    Tri (sent A) K c (S1 A c (J1 A c s h) (4 * s + h) (4 * s + h + 4)) (p1next c k) (S1 A c (J1 A c s (h + 1)) (4 * s + h + 1) (4 * s + h + 5)) := by
  rw [p1next_eq]
  unfold S1
  have hk' := k.isLt
  refine Tri.seq (Tri.take (⟨k.val, by omega⟩ : Fin 28) hk (by show k.val < _; omega)
    (tri_takein1 A ⟨k.val, by omega⟩ s h hh hk _ (by omega) (by show k.val < _; omega) (off1_eq _ (s + 1) h hh (by show k.val + 4 = _; omega))))
    (Tri.pass (⟨k.val + 4, by omega⟩ : Fin 28) (by show k.val + 4 = _; omega) (by omega) ?_)
  have e := tri_passon1 A (K := K) (c := c) ⟨k.val + 4, by omega⟩ (J1 A c s (h + 1)) (s + 1) h hh (by show k.val + 4 = _; omega)
    (inb := off1_inb c ⟨k.val + 4, by omega⟩) (off1_eq _ (s + 1) h hh (by show k.val + 4 = _; omega)) fun f hf => by
      rw [hf ⟨h, hh⟩, if_pos (Nat.lt_succ_self _)]
  rw [show 4 * s + h + 5 = k.val + 4 + 1 by omega, show 4 * s + h + 4 = k.val + 4 by omega]
  exact e

theorem tri_p1last (h : ℕ) (hh : h < 4) :
    Tri (sent A) K c (S1 A c (J1 A c 6 h) (24 + h) 28) (p1last c ⟨h, hh⟩) (S1 A c (J1 A c 6 (h + 1)) (24 + h + 1) 28) := by
  unfold S1
  exact Tri.take (⟨24 + h, by omega⟩ : Fin 28) rfl (by show 24 + h < _; omega)
    (tri_takein1 A ⟨24 + h, by omega⟩ 6 h hh rfl 28 (by omega) (by show 24 + h < _; omega) (at_last1 c ⟨h, hh⟩))

/-- The sources of the block products. -/
abbrev sources (c : Dev nD) : sProp 𝕄 := rounded c (x16 A c) (g16 A c) (u16 A c) (d16 A c)

theorem tri_nextBlock (P : FVec F S1024x1024 .f32 → Prop) (s : ℕ) (hs : s < 7) (a b : ℕ) :
    Tri (sent A) K c iprop(S1 A c P a b ∗ sources A c) (nextBlock c ⟨s, hs⟩) iprop(S1 A c (J1 A c s 0) a b ∗ sources A c) := by
  unfold S1 front nextBlock
  exact (tri_compute (x16 A c) (g16 A c) (u16 A c) (d16 A c) P (J1 A c s 0) (rowQ c (s + 1)) (at_next c ⟨s, hs⟩) fun f _ => j1_start A c s f).within
    iprop(owesAny c (owed c b) ∗ stages (idle1 c) (going1 c) (back1 A c) a b) (by ac_rfl) (by ac_rfl)

theorem tri_p1round (s : ℕ) (hs : s < 6) :
    Tri (sent A) K c iprop(S1 A c (J1 A c s 0) (4 * s) (4 * s + 4) ∗ sources A c) (p1round c ⟨s, hs⟩)
      iprop(S1 A c (J1 A c (s + 1) 0) (4 * (s + 1)) (4 * (s + 1) + 4) ∗ sources A c) := by
  have n (h : ℕ) (hh : h < 4) := (tri_p1next A (K := K) (c := c) ⟨4 * s + h, by omega⟩ s h hh rfl).frame (sources A c)
  exact (n 0 (by decide)).seq ((n 1 (by decide)).seq ((n 2 (by decide)).seq ((n 3 (by decide)).seq
    (tri_nextBlock A (J1 A c s 4) (s + 1) (by omega) (4 * (s + 1)) (4 * (s + 1) + 4)))))

theorem tri_phase1 :
    Tri (sent A) K c iprop(S1 A c (J0 A c) 0 0 ∗ sources A c) (phase1 c) iprop(S1 A c (J1 A c 6 4) 28 28 ∗ sources A c) := by
  have f (h : ℕ) (hh : h < 4) := (tri_p1first A (K := K) (c := c) h hh).frame (sources A c)
  have r (s : ℕ) (hs : s < 6) := tri_p1round A (K := K) (c := c) s hs
  have l (h : ℕ) (hh : h < 4) := (tri_p1last A (K := K) (c := c) h hh).frame (sources A c)
  exact (f 0 (by decide)).seq ((f 1 (by decide)).seq ((f 2 (by decide)).seq ((f 3 (by decide)).seq
    ((tri_nextBlock A (J0 A c) 0 (by decide) 0 4).seq
    ((r 0 (by decide)).seq ((r 1 (by decide)).seq ((r 2 (by decide)).seq ((r 3 (by decide)).seq ((r 4 (by decide)).seq ((r 5 (by decide)).seq
    ((l 0 (by decide)).seq ((l 1 (by decide)).seq ((l 2 (by decide)).seq (l 3 (by decide)))))))))))))))

/-! ## Phase two -/

def idle2 (c : Dev nD) (n : Fin 12) : sProp 𝕄 := idle (F := F) c (.inr (.inl n))
def going2 (c : Dev nD) (n : Fin 12) : sProp 𝕄 := going (F := F) c (.inr (.inl n))
def back2 (c : Dev nD) (n : Fin 12) : sProp 𝕄 :=
  iprop(spent c (.inr (.inl n)) ∗ owns (c : Thread nD τ) (win6 bS2 n) fullShare ((sent A).v2 c n) ∗ owns (c : Thread nD τ) (win6 bR2 n) fullShare ((sent A).v2 (down c) n))
def S2 (c : Dev nD) (P : FVec F S1024x1024 .f32 → Prop) (a b : ℕ) : sProp 𝕄 :=
  iprop(front c (28 + b) P ∗ stages (idle2 c) (going2 c) (back2 A c) a b)

def takein2 (c : Dev nD) (n : Fin 12) : Act F PUnit := do
  waitR2 n
  take2 c n
  waitS2 n
def passon2 (c : Dev nD) (n : Fin 12) (off : Fin 2 → ℕ) (inb : ∀ a, off a + S32x512.size a ≤ S1024x1024.size a) : Act F PUnit := do
  stage2 n off inb
  send2 (devU c) n

theorem tri_take2 (n : Fin 12) (t h : ℕ) (hh : h < 2) (hn : n.val = 2 * t + h) :
    Tri (sent A) K c iprop(outP c (J2 A c t h) ∗ owns (c : Thread nD τ) (win6 bR2 n) fullShare ((sent A).v2 (down c) n)) (take2 c n)
      iprop(outP c (J2 A c t (h + 1)) ∗ owns (c : Thread nD τ) (win6 bR2 n) fullShare ((sent A).v2 (down c) n)) := by
  unfold take2
  by_cases h6 : n.val < 6
  · rw [if_pos h6]
    refine tri_add2 n _ _ (rowQ c 7) (subR c t) ⟨h, hh⟩ _ (off2r_eq n t h hh hn) fun f hf => ?_
    rw [sent2 A n t h hh hn, sub_down t (by omega)]; exact j2_add A c t (by omega) ⟨h, hh⟩ f hf
  · rw [if_neg h6]
    refine tri_put2 n _ _ (rowQ c 7) (subR c t) ⟨h, hh⟩ _ (off2r_eq n t h hh hn) fun f hf => ?_
    rw [sent2 A n t h hh hn, sub_down t (by omega)]; exact j2_put A c t (by omega) ⟨h, hh⟩ f hf

theorem tri_takein2 (n : Fin 12) (t h : ℕ) (hh : h < 2) (hn : n.val = 2 * t + h) (b : ℕ) (hb : b ≤ 68) (hlt : 28 + n.val < b) :
    Tri (sent A) K c iprop(front c b (J2 A c t h) ∗ going2 c n) (takein2 c n) iprop(front c b (J2 A c t (h + 1)) ∗ back2 A c n) := by
  unfold takein2 front going2 back2
  refine Tri.seq ((tri_waitR2 n b hb hlt).within (outP c (J2 A c t h)) (by ac_rfl) rfl) (Tri.seq (Tri.within
    (tri_take2 A n t h hh hn) iprop(owesAny c (owed c b) ∗ got c (.inr (.inl n))) (by ac_rfl) rfl)
    ((tri_waitS2 n b hb hlt).within iprop(outP c (J2 A c t (h + 1)) ∗ owns (c : Thread nD τ) (win6 bR2 n) fullShare ((sent A).v2 (down c) n)) (by ac_rfl) (by ac_rfl)))

theorem tri_passon2 (n : Fin 12) (P : FVec F S1024x1024 .f32 → Prop) (t h : ℕ) (hh : h < 2) (hn : n.val = 2 * t + h)
    {off : Fin 2 → ℕ} {inb : ∀ a, off a + S32x512.size a ≤ S1024x1024.size a}
    (ho : off = ![128 * (rowQ c 7).val + 32 * (subS c t).val, 512 * (⟨h, hh⟩ : Fin 2).val])
    (hP : ∀ f, P f → half f (rowQ c 7) (subS c t) ⟨h, hh⟩ = cur A t c (subS c t) ⟨h, hh⟩) :
    Tri (sent A) K c iprop(front c (28 + n.val) P ∗ idle2 c n) (passon2 c n off inb) iprop(front c (28 + n.val + 1) P ∗ going2 c n) := by
  unfold passon2 front going2 idle2
  refine Tri.seq (Tri.within
    (tri_stage2 n P (rowQ c 7) (subS c t) ⟨h, hh⟩ ((sent A).v2 c n) ho fun f hf => by rw [sent2 A n t h hh hn, hP f hf])
      iprop(owesAny c (owed c (28 + n.val)) ∗ duty c (.inr (.inl n)) ∗ fresh c (.inr (.inl n)) ∗ anyAt (up c) (win6 bR2 n))
      (by unfold idle; show _ = iprop((_ ∗ slot c (.inr (.inl n))) ∗ _ ∗ _ ∗ _ ∗ landing (tgt (.inr (.inl n)) c) (.inr (.inl n))); ac_rfl) rfl)
    ((tri_send2 n).within (outP c P) (by ac_rfl) (by ac_rfl))

theorem tri_p2first (h : ℕ) (hh : h < 2) : Tri (sent A) K c (S2 A c (J2 A c 0 0) 0 h) (p2first c ⟨h, hh⟩) (S2 A c (J2 A c 0 0) 0 (h + 1)) := by
  unfold S2
  exact Tri.pass (⟨h, by omega⟩ : Fin 12) rfl (Nat.zero_le _) (tri_passon2 A ⟨h, by omega⟩ (J2 A c 0 0) 0 h hh (by show h = _; omega)
    (off2_eq _ 0 h hh (by show h = _; omega)) fun f hf => by rw [hf (subS c 0) ⟨h, hh⟩, if_neg (Nat.not_lt_zero _)])

theorem p2next_eq (c : Dev nD) (k : Fin 10) : (p2next c k : Act F PUnit)
    = takein2 c ⟨k.val, by omega⟩ >>= fun _ => passon2 c ⟨k.val + 2, by omega⟩ (off2 c ⟨k.val + 2, by omega⟩) (off2_inb c _) := by
  unfold p2next takein2 passon2
  simp only [bind_assoc]

theorem tri_p2next (k : Fin 10) (t h : ℕ) (hh : h < 2) (hk : k.val = 2 * t + h) :
    Tri (sent A) K c (S2 A c (J2 A c t h) (2 * t + h) (2 * t + h + 2)) (p2next c k) (S2 A c (J2 A c t (h + 1)) (2 * t + h + 1) (2 * t + h + 3)) := by
  rw [p2next_eq]
  unfold S2
  have hk' := k.isLt
  refine Tri.seq (Tri.take (⟨k.val, by omega⟩ : Fin 12) hk (by show k.val < _; omega)
    (tri_takein2 A ⟨k.val, by omega⟩ t h hh hk _ (by omega) (by show 28 + k.val < _; omega)))
    (Tri.pass (⟨k.val + 2, by omega⟩ : Fin 12) (by show k.val + 2 = _; omega) (by omega) ?_)
  have e := tri_passon2 A (K := K) (c := c) ⟨k.val + 2, by omega⟩ (J2 A c t (h + 1)) (t + 1) h hh (by show k.val + 2 = _; omega)
    (inb := off2_inb c ⟨k.val + 2, by omega⟩) (off2_eq _ (t + 1) h hh (by show k.val + 2 = _; omega)) fun f hf => by
      rw [hf (subS c (t + 1)) ⟨h, hh⟩, if_pos (Nat.lt_succ_self _)]
  rw [show 28 + (2 * t + h + 3) = 28 + (k.val + 2) + 1 by omega, show 28 + (2 * t + h + 2) = 28 + (k.val + 2) by omega]
  exact e

/-- Two steps of phase two are a round. -/
theorem tri_p2round (t : ℕ) (ht : t < 5) :
    Tri (sent A) K c (S2 A c (J2 A c t 0) (2 * t) (2 * t + 2)) (p2next c ⟨2 * t, by omega⟩ >>= fun _ => p2next c ⟨2 * t + 1, by omega⟩)
      (S2 A c (J2 A c (t + 1) 0) (2 * (t + 1)) (2 * (t + 1) + 2)) := by
  refine Tri.conseq ((tri_p2next A ⟨2 * t, by omega⟩ t 0 (by decide) rfl).seq (tri_p2next A ⟨2 * t + 1, by omega⟩ t 1 (by decide) rfl)) (Entails.refl _) ?_
  unfold S2
  exact sep_mono_left (front_mono (j2_next A c t))

theorem tri_p2last (h : ℕ) (hh : h < 2) :
    Tri (sent A) K c (S2 A c (J2 A c 5 h) (10 + h) 12) (p2last c ⟨h, hh⟩) (S2 A c (J2 A c 5 (h + 1)) (10 + h + 1) 12) := by
  unfold S2
  exact Tri.take (⟨10 + h, by omega⟩ : Fin 12) rfl (by show 10 + h < _; omega)
    (tri_takein2 A ⟨10 + h, by omega⟩ 5 h hh rfl 40 (by omega) (by show 28 + (10 + h) < _; omega))

theorem phase2_eq (c : Dev nD) : (phase2 c : Act F PUnit) = p2first c 0 >>= fun _ => p2first c 1
    >>= fun _ => (p2next c 0 >>= fun _ => p2next c 1) >>= fun _ => (p2next c 2 >>= fun _ => p2next c 3) >>= fun _ => (p2next c 4 >>= fun _ => p2next c 5)
    >>= fun _ => (p2next c 6 >>= fun _ => p2next c 7) >>= fun _ => (p2next c 8 >>= fun _ => p2next c 9) >>= fun _ => p2last c 0 >>= fun _ => p2last c 1 := by
  unfold phase2
  simp only [bind_assoc]

theorem tri_phase2 : Tri (sent A) K c (S2 A c (J2 A c 0 0) 0 0) (phase2 c) (S2 A c (J2 A c 5 2) 12 12) := by
  rw [phase2_eq]
  have f (h : ℕ) (hh : h < 2) := tri_p2first A (K := K) (c := c) h hh
  have r (t : ℕ) (ht : t < 5) := tri_p2round A (K := K) (c := c) t ht
  have l (h : ℕ) (hh : h < 2) := tri_p2last A (K := K) (c := c) h hh
  exact (f 0 (by decide)).seq ((f 1 (by decide)).seq ((r 0 (by decide)).seq ((r 1 (by decide)).seq ((r 2 (by decide)).seq ((r 3 (by decide)).seq
    ((r 4 (by decide)).seq ((l 0 (by decide)).seq (l 1 (by decide)))))))))

end Cert.KProof
-- ==== Proof.Phase3.lean ====
/-
# `Phase3`: the third phase on one device

A window that came in is read for the output from one half of its share while the other half goes out as the next
transfer's source. At the end the halves meet again.
-/
module

public import proofs.«01_k».proof.Proof.Phases
public import Idealize.ShloMosaic.Lib.StableHlo.CollectiveRules
public import Idealize.ShloMosaic.Lib.StableHlo.CollectiveRules

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) {K : Dev nD × Ck → ℕ} {c : Dev nD}

/-- What transfer `n` of phase three brings to device `c`, at share `q`. -/
abbrev came (c : Dev nD) (n : Fin 28) (q : PosShare TreeShare) : sProp 𝕄 := owns (c : Thread nD τ) (win7 bR3 n) q ((sent A).v3 (left c) n)

theorem came_split (n : Fin 28) : (came A c n fullShare : sProp 𝕄) = iprop(came A c n fullShare.left ∗ came A c n fullShare.right) :=
  have e := owns_share (Val := Elt F) (Ix := Unit) (Name := ℕ) (U := UU) (Lvl := ℕ) (c : Thread nD τ) (win7 bR3 n) (PosShare.mem_left_op_right fullShare) ((sent A).v3 (left c) n)
  equiv_iff.mp ⟨e.1, e.2⟩

theorem passed (m n : Fin 28) (hn : n.val = m.val + 4) : (sent A).v3 c n = (sent A).v3 (left c) m := by
  rw [sent3 A n (m.val / 4 + 1) (m.val % 4) (by omega) (by omega), sent3 A m (m.val / 4) (m.val % 4) (by omega) (by omega)]; rfl

def idle3 (c : Dev nD) (n : Fin 28) : sProp 𝕄 := idle (F := F) c (.inr (.inr n))
def going3 (c : Dev nD) (n : Fin 28) : sProp 𝕄 := going (F := F) c (.inr (.inr n))
/-- The half that no transfer takes further. -/
def kept (c : Dev nD) (n : Fin 28) : sProp 𝕄 := if n.val < 24 then iprop(emp) else came A c n fullShare.right
def back3 (c : Dev nD) (n : Fin 28) : sProp 𝕄 :=
  iprop(came A c n fullShare.left ∗ spent c (.inr (.inr n)) ∗ src3 c n ((sent A).v3 c n) ∗ kept A c n)
abbrev fam3 (c : Dev nD) (a b : ℕ) : Fin 28 → sProp 𝕄 := stat (idle3 c) (going3 c) (back3 A c) a b
def S3 (c : Dev nD) (a b : ℕ) : sProp 𝕄 := iprop(owesAny c (owed c (40 + b)) ∗ stages (idle3 c) (going3 c) (back3 A c) a b)

/-- A quarter of the staging block at what its transfer sends. -/
def staged (c : Dev nD) (h : ℕ) (hh : h < 4) : sProp 𝕄 := owns (c : Thread nD τ) (winS bS3 ⟨h, hh⟩) fullShare ((sent A).v3 c ⟨h, by omega⟩)

theorem tri_p3first (h : ℕ) (hh : h < 4) :
    Tri (sent A) K c iprop(S3 A c 0 h ∗ staged A c h hh)
      (send3a (devR c) ⟨h, hh⟩ ⟨h, by omega⟩) (S3 A c 0 (h + 1)) := by
  unfold S3 staged
  refine Tri.conseq (Tri.pass (A := iprop(owesAny c (owed c (40 + h)) ∗ owns (c : Thread nD τ) (winS bS3 ⟨h, hh⟩) fullShare ((sent A).v3 c ⟨h, by omega⟩)))
    (B := owesAny c (owed c (40 + h + 1))) (⟨h, by omega⟩ : Fin 28) rfl (Nat.zero_le _) ?_) (Entails.of_eq (by ac_rfl)) (Entails.refl _)
  refine (tri_send3a ⟨h, hh⟩ ⟨h, by omega⟩ rfl).conseq ?_ (Entails.refl _)
  unfold idle3 idle slot
  show iprop((_ ∗ _) ∗ _ ∗ _ ∗ anyAt (right c) (win7 bR3 _) ∗ emp) ⊢ _
  iintro ⟨⟨HO, Hs⟩, Hd, Hf, Hl, -⟩
  isplitl [HO]; · iexact HO
  isplitl [Hd]; · iexact Hd
  isplitl [Hf]; · iexact Hf
  isplitl [Hl]; · iexact Hl
  iexact Hs

/-- The transfer between its two waits, with the half its reading is from. -/
def mid3 (c : Dev nD) (n : Fin 28) : sProp 𝕄 := iprop(got c (.inr (.inr n)) ∗ came A c n fullShare.left)

theorem fam3_next (k : Fin 28) (n : Fin 28) (hn : n.val = k.val + 4) :
    Function.update (Function.update (Function.update (fam3 A c k.val (k.val + 4)) k (mid3 A c k)) n (going3 c n)) k (back3 A c k)
      = fam3 A c (k.val + 1) (k.val + 5) := by
  have hne : n ≠ k := fun e => by rw [e] at hn; omega
  rw [Function.update_comm hne, Function.update_idem, stat_take k rfl, stat_pass n hn (by omega)]

theorem tri_p3next (k : Fin 24) :
    Tri (sent A) K c (S3 A c k.val (k.val + 4)) (p3next c k) (S3 A c (k.val + 1) (k.val + 5)) := by
  have hk := k.isLt
  unfold S3 p3next
  generalize hm : (⟨k.val, by omega⟩ : Fin 28) = m
  generalize hn : (⟨k.val + 4, by omega⟩ : Fin 28) = n
  have hmv : m.val = k.val := by rw [← hm]
  have hnv : n.val = m.val + 4 := by rw [← hn, hmv]
  have hne : n ≠ m := fun e => by rw [e] at hnv; omega
  rw [← hmv] at hk ⊢
  have e1 : Tri (sent A) K c iprop(owesAny c (owed c (40 + (m.val + 4))) ∗ fam3 A c m.val (m.val + 4) m) (waitR3 m)
      iprop((owesAny c (owed c (40 + (m.val + 4))) ∗ came A c m fullShare.right) ∗ mid3 A c m) := by
    rw [show fam3 A c m.val (m.val + 4) m = going3 c m from stat_way (lt_irrefl _) (by omega)]
    refine (tri_waitR3 m (40 + (m.val + 4)) (by omega) (by omega)).conseq (Entails.refl _) (Entails.of_eq ?_)
    unfold mid3
    show iprop(_ ∗ _ ∗ came A c m fullShare) = _
    rw [came_split]; ac_rfl
  have e2 : Tri (sent A) K c iprop((owesAny c (owed c (40 + (m.val + 4))) ∗ came A c m fullShare.right) ∗ Function.update (fam3 A c m.val (m.val + 4)) m (mid3 A c m) n)
      (send3b (devR c) m n) iprop(owesAny c (owed c (40 + (m.val + 5))) ∗ going3 c n) := by
    rw [Function.update_of_ne hne, show fam3 A c m.val (m.val + 4) n = idle3 c n from stat_start (by omega) (by omega)]
    have e := tri_send3b (V := sent A) (K := K) (c := c) m n hnv
    rw [hnv, passed A m n hnv] at e
    refine e.conseq ?_ (Entails.refl _)
    unfold idle3 idle slot
    show iprop((_ ∗ _) ∗ _ ∗ _ ∗ anyAt (right c) (win7 bR3 _) ∗ emp) ⊢ _
    iintro ⟨⟨HO, Hs⟩, Hd, Hf, Hl, -⟩
    isplitl [HO]; · iexact HO
    isplitl [Hd]; · iexact Hd
    isplitl [Hf]; · iexact Hf
    isplitl [Hl]; · iexact Hl
    iexact Hs
  have e3 : Tri (sent A) K c iprop(owesAny c (owed c (40 + (m.val + 5))) ∗ Function.update (Function.update (fam3 A c m.val (m.val + 4)) m (mid3 A c m)) n (going3 c n) m)
      (waitS3 m) iprop(owesAny c (owed c (40 + (m.val + 5))) ∗ back3 A c m) := by
    rw [Function.update_of_ne hne.symm, Function.update_self]
    unfold mid3 back3 kept
    rw [if_pos (by omega)]
    refine ((tri_waitS3 m (40 + (m.val + 5)) (by omega) (by omega)).frame (came A c m fullShare.left)).conseq (Entails.of_eq (by ac_rfl)) ?_
    iintro ⟨⟨HO, Ha, Hs⟩, Hl⟩
    isplitl [HO]; · iexact HO
    isplitl [Hl]; · iexact Hl
    isplitl [Ha]; · iexact Ha
    isplitl [Hs]; · iexact Hs
    iempintro
  have e := (Tri.swap _ m _ e1).seq ((Tri.swap _ n _ e2).seq (Tri.swap _ m _ e3))
  rw [fam3_next A m n hnv] at e
  exact e

theorem tri_p3last (h : ℕ) (hh : h < 4) : Tri (sent A) K c (S3 A c (24 + h) 28) (p3last c ⟨h, hh⟩) (S3 A c (24 + h + 1) 28) := by
  unfold S3 p3last
  refine Tri.take (⟨24 + h, by omega⟩ : Fin 28) rfl (by show 24 + h < _; omega) ?_
  generalize hm : (⟨24 + h, by omega⟩ : Fin 28) = m
  have hmv : m.val = 24 + h := by rw [← hm]
  refine Tri.seq (tri_waitR3 m 68 (by omega) (by omega)) ?_
  refine ((tri_waitS3 m 68 (by omega) (by omega)).frame (came A c m fullShare)).conseq (Entails.of_eq (by ac_rfl)) (Entails.of_eq ?_)
  unfold back3 kept
  rw [if_neg (by omega), came_split]; ac_rfl

/-- Four members of a family at once. -/
theorem pull4 (Ψ L R : Fin 28 → sProp 𝕄) (s : Fin 7) (h : ∀ j : Fin 4, Ψ (q4 s j) = iprop(L (q4 s j) ∗ R (q4 s j))) :
    ∃ Z : sProp 𝕄, bigSep Finset.univ Ψ = iprop((bigSep Finset.univ fun j : Fin 4 => L (q4 s j)) ∗ Z) := by
  let e : Fin 4 ↪ Fin 28 := ⟨q4 s, fun i j hij => Fin.ext (by have := congrArg Fin.val hij; simp only [q4] at this; omega)⟩
  refine ⟨iprop((bigSep Finset.univ fun j : Fin 4 => R (q4 s j)) ∗ bigSep (Finset.univ \ Finset.univ.map e) Ψ), ?_⟩
  rw [bigSep_sdiff_split (Finset.subset_univ (Finset.univ.map e)), bigSep_map,
    bigSep_congr (Φ := fun j => Ψ (e j)) (Ψ := fun j : Fin 4 => iprop(L (q4 s j) ∗ R (q4 s j))) fun j _ => h j, bigSep_sep']
  show iprop((_ ∗ _) ∗ _) = iprop(_ ∗ _ ∗ _)
  ac_rfl

theorem tri_gather (s : Fin 7) (a b : ℕ) (ha : 4 * s.val + 4 ≤ a) :
    Tri (sent A) K c iprop(S3 A c a b ∗ outP c (J3 A c s.val)) (gather c s) iprop(S3 A c a b ∗ outP c (J3 A c (s.val + 1))) := by
  obtain ⟨Z, hZ⟩ := pull4 (fam3 A c a b) (fun n => came A c n fullShare.left)
    (fun n => iprop(spent c (.inr (.inr n)) ∗ src3 c n ((sent A).v3 c n) ∗ kept A c n)) s
    fun j => stat_end (show 4 * s.val + j.val < a by omega)
  unfold S3
  show Tri (sent A) K c iprop((_ ∗ bigSep Finset.univ (fam3 A c a b)) ∗ _) _ iprop((_ ∗ bigSep Finset.univ (fam3 A c a b)) ∗ _)
  rw [hZ]
  exact (tri_put3 s (J3 A c s.val) (J3 A c (s.val + 1)) (rowQ c s.val) (fun h => (sent A).v3 (left c) (q4 s h)) fullShare.left (at_gather c s)
    fun f w hf hw => j3_put A c s.val s.isLt f w hf fun h => by
      rw [hw h, sent3 A (q4 s h) s.val h.val h.isLt rfl]; rfl).within iprop(owesAny c (owed c (40 + b)) ∗ Z) (by ac_rfl) (by ac_rfl)

theorem tri_p3round (s : ℕ) (hs : s < 6) :
    Tri (sent A) K c iprop(S3 A c (4 * s) (4 * s + 4) ∗ outP c (J3 A c s)) (p3round c ⟨s, hs⟩)
      iprop(S3 A c (4 * (s + 1)) (4 * (s + 1) + 4) ∗ outP c (J3 A c (s + 1))) := by
  have n (h : ℕ) (hh : h < 4) := (tri_p3next A (K := K) (c := c) ⟨4 * s + h, by omega⟩).frame (outP c (J3 A c s))
  exact (n 0 (by decide)).seq ((n 1 (by decide)).seq ((n 2 (by decide)).seq ((n 3 (by decide)).seq
    (tri_gather A ⟨s, by omega⟩ (4 * (s + 1)) (4 * (s + 1) + 4) (le_refl _)))))

theorem staged_all : (held c cc0_scratch8 (pass3 A 0 c) : sProp 𝕄)
    ⊢ iprop(staged A c 0 (by decide) ∗ staged A c 1 (by decide) ∗ staged A c 2 (by decide) ∗ staged A c 3 (by decide)) := by
  unfold staged
  rw [sent3 A ⟨0, by decide⟩ 0 0 (by decide) rfl, sent3 A ⟨1, by decide⟩ 0 1 (by decide) rfl, sent3 A ⟨2, by decide⟩ 0 2 (by decide) rfl,
    sent3 A ⟨3, by decide⟩ 0 3 (by decide) rfl]
  have e := (splitS c (pass3 A 0 c)).trans (Entails.of_eq (bigSep_fin4 _))
  rw [show bS3.view.set = Finset.univ from View.set_whole cc0_scratch8] at e
  exact e

theorem tri_phase3 :
    Tri (sent A) K c iprop((S3 A c 0 0 ∗ heldAny c cc0_scratch8) ∗ outP c (J3 A c 0)) (phase3 c) iprop(S3 A c 28 28 ∗ outP c (J3 A c 7)) := by
  have r (s : ℕ) (hs : s < 6) := tri_p3round A (K := K) (c := c) s hs
  have l (h : ℕ) (hh : h < 4) := (tri_p3last A (K := K) (c := c) h hh).frame (outP c (J3 A c 6))
  have stage := tri_stage3 (V := sent A) (K := K) (c := c) (J3 A c 0) (rowQ c 7) (pass3 A 0 c) (inb := k0_off15_inb c) (at_done c) fun f hf => by rw [hf.1]; rfl
  refine Tri.seq ((stage.conseq (Entails.refl _) (sep_mono_right (staged_all A))).within (S3 A c 0 0) (by ac_rfl) rfl) ?_
  have f (h : ℕ) (hh : h < 4) := tri_p3first A (K := K) (c := c) h hh
  refine Tri.seq ((f 0 (by decide)).within iprop(outP c (J3 A c 0) ∗ staged A c 1 (by decide) ∗ staged A c 2 (by decide) ∗ staged A c 3 (by decide)) (by ac_rfl) rfl) ?_
  refine Tri.seq ((f 1 (by decide)).within iprop(outP c (J3 A c 0) ∗ staged A c 2 (by decide) ∗ staged A c 3 (by decide)) (by ac_rfl) rfl) ?_
  refine Tri.seq ((f 2 (by decide)).within iprop(outP c (J3 A c 0) ∗ staged A c 3 (by decide)) (by ac_rfl) rfl) ?_
  refine Tri.seq ((f 3 (by decide)).within (outP c (J3 A c 0)) (by ac_rfl) rfl) ?_
  exact (r 0 (by decide)).seq ((r 1 (by decide)).seq ((r 2 (by decide)).seq ((r 3 (by decide)).seq ((r 4 (by decide)).seq ((r 5 (by decide)).seq
    ((l 0 (by decide)).seq ((l 1 (by decide)).seq ((l 2 (by decide)).seq ((l 3 (by decide)).seq (tri_gather A 6 28 28 (by decide)))))))))))

end Cert.KProof
-- ==== Proof.Whole.lean ====
/-
# `Whole`: the body on one device

The entry barrier opens the landing windows, the phases run, the exit barrier ends. What a device holds before it and
after it is stated by whole buffers.
-/
module

public import proofs.«01_k».proof.Proof.Phase3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Args F) {V : Sent F} {K : Dev nD × Ck → ℕ} {c : Dev nD}

/-! ## The barriers -/

/-- The duties of a device at its neighbours' barriers. -/
def toks4 (c : Dev nD) (i : Fin 2) : sProp 𝕄 :=
  iprop(dutyTok ER (kcell (left c, .inl i)) 0 0 ∗ dutyTok ER (kcell (right c, .inl i)) 0 1
    ∗ dutyTok ER (kcell (up c, .inl i)) 0 2 ∗ dutyTok ER (kcell (down c, .inl i)) 0 3)
/-- What a device has of a barrier before it. -/
def bar (c : Dev nD) (i : Fin 2) : sProp 𝕄 :=
  iprop(toks4 (F := F) c i ∗ cred (tallyAt (kcell (c, .inl i)) () 4) ∗ atPos ER (kcell (c, .inl i)) 0 ∅ 0)

theorem tri_four (i : Fin 2) (s : Sem sig) (hs : csem (.inl i) = .reg s) (O : CellTallies nD τ sig Unit)
    (hO : (levAts L lv : sProp 𝕄) ⊢ MayWait (c : Thread nD τ) (csem (.inl i)) () O) :
    Tri V K c
      iprop(owesAny c (O + pays4 i c) ∗ bar c i ∗ kpay V (left c) (.inl i) 0 ∗ kpay V (right c) (.inl i) 1 ∗ kpay V (up c) (.inl i) 2 ∗ kpay V (down c) (.inl i) 3)
      (do
        semSignalWord (devL c) s 1#32
        semSignalWord (devR c) s 1#32
        semSignalWord (devU c) s 1#32
        semSignalWord (devD c) s 1#32
        semWaitWord s 4#32)
      iprop(owesAny c O ∗ atPos ER (kcell (c, .inl i)) 1 ∅ 0
        ∗ kpay V c (.inl i) 0 ∗ kpay V c (.inl i) 1 ∗ kpay V c (.inl i) 2 ∗ kpay V c (.inl i) 3) := by
  rw [devL_eq, devR_eq, devU_eq, devD_eq]
  unfold bar toks4 pays4
  rw [show O + (tallyAt (kcell (down c, .inl i)) () 1 + tallyAt (kcell (up c, .inl i)) () 1 + tallyAt (kcell (right c, .inl i)) () 1 + tallyAt (kcell (left c, .inl i)) () 1)
    = O + tallyAt (kcell (down c, .inl i)) () 1 + tallyAt (kcell (up c, .inl i)) () 1 + tallyAt (kcell (right c, .inl i)) () 1 + tallyAt (kcell (left c, .inl i)) () 1 by
    simp only [add_assoc]]
  have last := tri_wait4 (V := V) (K := K) (c := c) i s hs O hO
  refine Tri.seq ((tri_signal (left c) i 0 s hs (O + tallyAt (kcell (down c, .inl i)) () 1 + tallyAt (kcell (up c, .inl i)) () 1 + tallyAt (kcell (right c, .inl i)) () 1)).within
    iprop(dutyTok ER (kcell (right c, .inl i)) 0 1 ∗ dutyTok ER (kcell (up c, .inl i)) 0 2 ∗ dutyTok ER (kcell (down c, .inl i)) 0 3
      ∗ kpay V (right c) (.inl i) 1 ∗ kpay V (up c) (.inl i) 2 ∗ kpay V (down c) (.inl i) 3
      ∗ cred (tallyAt (kcell (c, .inl i)) () 4) ∗ atPos ER (kcell (c, .inl i)) 0 ∅ 0) (by ac_rfl) rfl) ?_
  refine Tri.seq ((tri_signal (right c) i 1 s hs (O + tallyAt (kcell (down c, .inl i)) () 1 + tallyAt (kcell (up c, .inl i)) () 1)).within
    iprop(dutyTok ER (kcell (up c, .inl i)) 0 2 ∗ dutyTok ER (kcell (down c, .inl i)) 0 3
      ∗ kpay V (up c) (.inl i) 2 ∗ kpay V (down c) (.inl i) 3
      ∗ cred (tallyAt (kcell (c, .inl i)) () 4) ∗ atPos ER (kcell (c, .inl i)) 0 ∅ 0) (by ac_rfl) rfl) ?_
  refine Tri.seq ((tri_signal (up c) i 2 s hs (O + tallyAt (kcell (down c, .inl i)) () 1)).within
    iprop(dutyTok ER (kcell (down c, .inl i)) 0 3 ∗ kpay V (down c) (.inl i) 3
      ∗ cred (tallyAt (kcell (c, .inl i)) () 4) ∗ atPos ER (kcell (c, .inl i)) 0 ∅ 0) (by ac_rfl) rfl) ?_
  exact Tri.seq ((tri_signal (down c) i 3 s hs O).within
    iprop(cred (tallyAt (kcell (c, .inl i)) () 4) ∗ atPos ER (kcell (c, .inl i)) 0 ∅ 0) (by ac_rfl) rfl) last

theorem pay_left (c : Dev nD) : kpay V (left c) (.inl 0) 0 = (landsRing c : sProp 𝕄) := by
  show (landsRing (right (left c)) : sProp 𝕄) = _
  rw [right_left]
theorem pay_down (c : Dev nD) : kpay V (down c) (.inl 0) 3 = (landsPlane c : sProp 𝕄) := by
  show (landsPlane (up (down c)) : sProp 𝕄) = _
  rw [up_down]

theorem tri_entry :
    Tri V K c iprop(owesAny c (owed₀ c) ∗ bar c 0 ∗ landsRing c ∗ landsPlane c) (entry c)
      iprop(owesAny c (owed c 0) ∗ atPos ER (kcell (c, .inl 0)) 1 ∅ 0 ∗ landsRing (right c) ∗ landsPlane (up c)) := by
  refine (tri_four (V := V) (K := K) (c := c) 0 barS rfl (owed c 0) (mayWait_bar c)).conseq ?_ ?_
  · rw [pay_left, pay_down]
    show _ ⊢ iprop(owesAny c (owed₀ c) ∗ bar c 0 ∗ landsRing c ∗ emp ∗ emp ∗ landsPlane c)
    iintro ⟨HO, Hb, Hr, Hp⟩
    isplitl [HO]; · iexact HO
    isplitl [Hb]; · iexact Hb
    isplitl [Hr]; · iexact Hr
    isplitr; · iempintro
    isplitr; · iempintro
    iexact Hp
  · show iprop(_ ∗ _ ∗ landsRing (right c) ∗ emp ∗ emp ∗ landsPlane (up c)) ⊢ _
    iintro ⟨HO, Hb, Hr, -, -, Hp⟩
    isplitl [HO]; · iexact HO
    isplitl [Hb]; · iexact Hb
    isplitl [Hr]; · iexact Hr
    iexact Hp

theorem tri_leave :
    Tri V K c iprop(owesAny c (owed c 68) ∗ bar c 1) (leave c) iprop(owesAny c 0 ∗ atPos ER (kcell (c, .inl 1)) 1 ∅ 0) := by
  refine (tri_four (V := V) (K := K) (c := c) 1 exS rfl 0 (by rw [MayWait_zero]; iintro -; iempintro)).conseq ?_ ?_
  · rw [owed_end, zero_add]
    show _ ⊢ iprop(_ ∗ _ ∗ emp ∗ emp ∗ emp ∗ emp)
    iintro ⟨HO, Hb⟩
    isplitl [HO]; · iexact HO
    isplitl [Hb]; · iexact Hb
    isplitr; · iempintro
    isplitr; · iempintro
    isplitr; · iempintro
    iempintro
  · iintro ⟨HO, Hb, -⟩
    isplitl [HO]; · iexact HO
    iexact Hb

/-! ## The casts and the first block -/

/-- The device's inputs. -/
def ins (c : Dev nD) : sProp 𝕄 := iprop(held c cc0_stg0_0 (A.x c) ∗ held c cc0_stg1_0 (A.g c) ∗ held c cc0_stg2_0 (A.u c) ∗ held c cc0_stg3_0 (A.d c))
def raw4 (c : Dev nD) : sProp 𝕄 :=
  iprop(heldAny (F := F) c cc0_scratch0 ∗ heldAny (F := F) c cc0_scratch1 ∗ heldAny (F := F) c cc0_scratch2 ∗ heldAny (F := F) c cc0_scratch3)
def outAny (c : Dev nD) : sProp 𝕄 := outP (F := F) c fun _ => True

theorem tri_phase0 : Tri (sent A) K c iprop(ins A c ∗ raw4 c ∗ outAny c) (phase0 c) iprop(ins A c ∗ sources A c ∗ outP c (J0 A c)) := by
  unfold ins raw4 outAny sources rounded
  refine Tri.seq ((tri_castX (A.x c)).within iprop(held c cc0_stg1_0 (A.g c) ∗ held c cc0_stg2_0 (A.u c) ∗ held c cc0_stg3_0 (A.d c)
    ∗ heldAny (F := F) c cc0_scratch1 ∗ heldAny (F := F) c cc0_scratch2 ∗ heldAny (F := F) c cc0_scratch3 ∗ outP c fun _ => True) (by ac_rfl) rfl) ?_
  refine Tri.seq ((tri_castG (A.g c)).within iprop((held c cc0_stg0_0 (A.x c) ∗ held c cc0_scratch0 (x16 A c)) ∗ held c cc0_stg2_0 (A.u c) ∗ held c cc0_stg3_0 (A.d c)
    ∗ heldAny (F := F) c cc0_scratch2 ∗ heldAny (F := F) c cc0_scratch3 ∗ outP c fun _ => True) (by ac_rfl) rfl) ?_
  refine Tri.seq ((tri_castU (A.u c)).within iprop((held c cc0_stg0_0 (A.x c) ∗ held c cc0_scratch0 (x16 A c)) ∗ (held c cc0_stg1_0 (A.g c) ∗ held c cc0_scratch1 (g16 A c))
    ∗ held c cc0_stg3_0 (A.d c) ∗ heldAny (F := F) c cc0_scratch3 ∗ outP c fun _ => True) (by ac_rfl) rfl) ?_
  refine Tri.seq ((tri_castD (A.d c)).within iprop((held c cc0_stg0_0 (A.x c) ∗ held c cc0_scratch0 (x16 A c)) ∗ (held c cc0_stg1_0 (A.g c) ∗ held c cc0_scratch1 (g16 A c))
    ∗ (held c cc0_stg2_0 (A.u c) ∗ held c cc0_scratch2 (u16 A c)) ∗ outP c fun _ => True) (by ac_rfl) rfl) ?_
  refine (tri_compute (x16 A c) (g16 A c) (u16 A c) (d16 A c) (fun _ => True) (J0 A c) (rowQ c 0) (at_own c) fun f _ => j0_start A c f).within
    iprop(held c cc0_stg0_0 (A.x c) ∗ held c cc0_stg1_0 (A.g c) ∗ held c cc0_stg2_0 (A.u c) ∗ held c cc0_stg3_0 (A.d c)) ?_ ?_
  · unfold rounded; ac_rfl
  · unfold rounded; ac_rfl

/-! ## The transfers' windows from the scratch buffers, and back -/

/-- Each transfer's duties and rounds. -/
def toks (c : Dev nD) : sProp 𝕄 := bigSep Finset.univ fun t : Xf => iprop(duty (F := F) c t ∗ fresh c t)
def overs (c : Dev nD) : sProp 𝕄 := bigSep Finset.univ fun t : Xf => spent (F := F) c t
def slots1 (c : Dev nD) : sProp 𝕄 := bigSep Finset.univ fun n : Fin 28 => slot (F := F) c (.inl n)
def slots2 (c : Dev nD) : sProp 𝕄 := bigSep Finset.univ fun n : Fin 12 => slot (F := F) c (.inr (.inl n))

theorem by_phase (Φ : Xf → sProp 𝕄) : bigSep Finset.univ Φ
    = iprop((bigSep Finset.univ fun n => Φ (.inl n)) ∗ (bigSep Finset.univ fun n => Φ (.inr (.inl n))) ∗ bigSep Finset.univ fun n => Φ (.inr (.inr n))) := by
  rw [bigSep_univ_sum, bigSep_univ_sum (Φ := fun b => Φ (Sum.inr b))]; rfl

/-- The first phase, the second and the third with everything still to start. -/
def ready1 (c : Dev nD) : sProp 𝕄 := stages (idle1 c) (going1 c) (back1 A c) 0 0
def ready2 (c : Dev nD) : sProp 𝕄 := stages (idle2 c) (going2 c) (back2 A c) 0 0
def ready3 (c : Dev nD) : sProp 𝕄 := stages (idle3 c) (going3 c) (back3 A c) 0 0
def done1 (c : Dev nD) : sProp 𝕄 := stages (idle1 c) (going1 c) (back1 A c) 28 28
def done2 (c : Dev nD) : sProp 𝕄 := stages (idle2 c) (going2 c) (back2 A c) 12 12
def done3 (c : Dev nD) : sProp 𝕄 := stages (idle3 c) (going3 c) (back3 A c) 28 28

theorem stages_zero {N : ℕ} (X Y Z : Fin N → sProp 𝕄) : stages X Y Z 0 0 = bigSep Finset.univ X :=
  bigSep_congr fun n _ => stat_start (Nat.not_lt_zero _) (Nat.not_lt_zero _)
theorem stages_all {N : ℕ} (X Y Z : Fin N → sProp 𝕄) (b : ℕ) : stages X Y Z N b = bigSep Finset.univ Z :=
  bigSep_congr fun n _ => stat_end n.isLt

theorem idle_split {N : ℕ} (t : Fin N → Xf) :
    (bigSep Finset.univ fun n => idle (F := F) c (t n))
      = iprop((bigSep Finset.univ fun n => iprop(duty (F := F) c (t n) ∗ fresh c (t n))) ∗ (bigSep Finset.univ fun n => landing (F := F) (tgt (t n) c) (t n))
        ∗ bigSep Finset.univ fun n => slot (F := F) c (t n)) := by
  rw [← bigSep_sep', ← bigSep_sep']
  exact bigSep_congr fun n _ => by unfold idle; ac_rfl

theorem ready : (iprop(toks c ∗ landsRing (right c) ∗ landsPlane (up c) ∗ slots1 c ∗ slots2 c) : sProp 𝕄) ⊢ iprop(ready1 A c ∗ ready2 A c ∗ ready3 A c) := by
  unfold toks landsRing landsPlane slots1 slots2 ready1 ready2 ready3
  rw [by_phase, stages_zero, stages_zero, stages_zero,
    show (bigSep Finset.univ (idle1 (F := F) c)) = _ from idle_split fun n => .inl n,
    show (bigSep Finset.univ (idle2 (F := F) c)) = _ from idle_split fun n => .inr (.inl n),
    show (bigSep Finset.univ (idle3 (F := F) c)) = _ from idle_split fun n => .inr (.inr n),
    show (bigSep Finset.univ fun n : Fin 28 => slot (F := F) c (.inr (.inr n))) = iprop(emp) from bigSep_emp_const _]
  iintro ⟨⟨T1, T2, T3⟩, ⟨L1, L3⟩, L2, Z1, Z2⟩
  isplitl [T1 L1 Z1]
  · isplitl [T1]; · iexact T1
    isplitl [L1]; · iexact L1
    iexact Z1
  isplitl [T2 L2 Z2]
  · isplitl [T2]; · iexact T2
    isplitl [L2]; · iexact L2
    iexact Z2
  isplitl [T3]; · iexact T3
  isplitl [L3]; · iexact L3
  iempintro

theorem cut7 (M : Memref sig .tc .vmem S7x128x1024 .bf16) (hM : M.view.set = Finset.univ) :
    (iprop(∃ f : Buf (Elt F) (M.view.loc (c : Thread nD τ)), M.view.loc (c : Thread nD τ) ↦{fullShare} f) : sProp 𝕄) ⊢ bigSep Finset.univ fun n : Fin 28 => anyAt c (win7 M n) := by
  iintro ⟨%f, H⟩
  iapply (split7 M c f)
  rw [hM]; iexact H
theorem cut6 (M : Memref sig .tc .vmem S6x32x1024 .bf16) (hM : M.view.set = Finset.univ) :
    (iprop(∃ f : Buf (Elt F) (M.view.loc (c : Thread nD τ)), M.view.loc (c : Thread nD τ) ↦{fullShare} f) : sProp 𝕄) ⊢ bigSep Finset.univ fun n : Fin 12 => anyAt c (win6 M n) := by
  iintro ⟨%f, H⟩
  iapply (split6 M c f)
  rw [hM]; iexact H
theorem mend7 (M : Memref sig .tc .vmem S7x128x1024 .bf16) (hM : M.view.set = Finset.univ) :
    (bigSep Finset.univ (fun n : Fin 28 => anyAt c (win7 M n)) : sProp 𝕄) ⊢ iprop(∃ f : Buf (Elt F) (M.view.loc (c : Thread nD τ)), M.view.loc (c : Thread nD τ) ↦{fullShare} f) := by
  have e := merge7 (F := F) M c
  rw [hM] at e
  exact e
theorem mend6 (M : Memref sig .tc .vmem S6x32x1024 .bf16) (hM : M.view.set = Finset.univ) :
    (bigSep Finset.univ (fun n : Fin 12 => anyAt c (win6 M n)) : sProp 𝕄) ⊢ iprop(∃ f : Buf (Elt F) (M.view.loc (c : Thread nD τ)), M.view.loc (c : Thread nD τ) ↦{fullShare} f) := by
  have e := merge6 (F := F) M c
  rw [hM] at e
  exact e
theorem mend8 : (bigSep Finset.univ (fun n : Fin 4 => anyAt c (winS bS3 n)) : sProp 𝕄) ⊢ heldAny c cc0_scratch8 := by
  have e := mergeS (F := F) c
  rw [show bS3.view.set = Finset.univ from View.set_whole cc0_scratch8] at e
  exact e

theorem cut_S1 : (heldAny (F := F) c cc0_scratch4 : sProp 𝕄) ⊢ slots1 c := cut7 bS1 (View.set_whole cc0_scratch4)
theorem cut_R1 : (heldAny (F := F) c cc0_scratch5 : sProp 𝕄) ⊢ bigSep Finset.univ fun n : Fin 28 => landing c (.inl n) := cut7 bR1 (View.set_whole cc0_scratch5)
theorem cut_S2 : (heldAny (F := F) c cc0_scratch6 : sProp 𝕄) ⊢ slots2 c := cut6 bS2 (View.set_whole cc0_scratch6)
theorem cut_R2 : (heldAny (F := F) c cc0_scratch7 : sProp 𝕄) ⊢ landsPlane c := cut6 bR2 (View.set_whole cc0_scratch7)
theorem cut_R3 : (heldAny (F := F) c cc0_scratch9 : sProp 𝕄) ⊢ bigSep Finset.univ fun n : Fin 28 => landing c (.inr (.inr n)) := cut7 bR3 (View.set_whole cc0_scratch9)
theorem cut_R : (iprop(heldAny (F := F) c cc0_scratch5 ∗ heldAny (F := F) c cc0_scratch9) : sProp 𝕄) ⊢ landsRing c := BIClass.sep_mono cut_R1 cut_R3

theorem any_of {s : Shape} {e : EltTy} (M : Memref sig .tc .vmem s e) (X : s.Idx → Elt F e) : (owns (c : Thread nD τ) M fullShare X : sProp 𝕄) ⊢ anyAt c M := by
  unfold anyAt
  iintro H; iexists X; iexact H

theorem back1_any (n : Fin 28) : (back1 A c n : sProp 𝕄) ⊢ iprop(spent c (.inl n) ∗ anyAt c (win7 bS1 n) ∗ anyAt c (win7 bR1 n)) :=
  sep_mono_right (BIClass.sep_mono (any_of _ _) (any_of _ _))
theorem back2_any (n : Fin 12) : (back2 A c n : sProp 𝕄) ⊢ iprop(spent c (.inr (.inl n)) ∗ anyAt c (win6 bS2 n) ∗ anyAt c (win6 bR2 n)) :=
  sep_mono_right (BIClass.sep_mono (any_of _ _) (any_of _ _))

theorem end1 : (done1 A c : sProp 𝕄) ⊢ iprop((bigSep Finset.univ fun n : Fin 28 => spent c (.inl n)) ∗ heldAny c cc0_scratch4 ∗ heldAny c cc0_scratch5) := by
  unfold done1
  rw [stages_all]
  refine (bigSep_mono fun n _ => back1_any A n).trans ?_
  rw [bigSep_sep', bigSep_sep']
  exact sep_mono_right (BIClass.sep_mono (mend7 bS1 (View.set_whole cc0_scratch4)) (mend7 bR1 (View.set_whole cc0_scratch5)))
theorem end2 : (done2 A c : sProp 𝕄) ⊢ iprop((bigSep Finset.univ fun n : Fin 12 => spent c (.inr (.inl n))) ∗ heldAny c cc0_scratch6 ∗ heldAny c cc0_scratch7) := by
  unfold done2
  rw [stages_all]
  refine (bigSep_mono fun n _ => back2_any A n).trans ?_
  rw [bigSep_sep', bigSep_sep']
  exact sep_mono_right (BIClass.sep_mono (mend6 bS2 (View.set_whole cc0_scratch6)) (mend6 bR2 (View.set_whole cc0_scratch7)))

/-- Twenty-eight as four and twenty-four, either way round. -/
theorem four_first (Φ : Fin 28 → sProp 𝕄) : bigSep Finset.univ Φ
    = iprop((bigSep Finset.univ fun h : Fin 4 => Φ ⟨h.val, by omega⟩) ∗ bigSep Finset.univ fun m : Fin 24 => Φ ⟨m.val + 4, by omega⟩) := by
  rw [bigSep_univ_equiv (finSumFinEquiv (m := 4) (n := 24)) (Φ := Φ), bigSep_univ_sum]
  exact congrArg₂ (fun P Q : sProp 𝕄 => iprop(P ∗ Q)) rfl (bigSep_congr fun m _ => congrArg Φ (Fin.ext (Nat.add_comm 4 m.val)))
theorem four_last (Φ : Fin 28 → sProp 𝕄) : bigSep Finset.univ Φ
    = iprop((bigSep Finset.univ fun m : Fin 24 => Φ ⟨m.val, by omega⟩) ∗ bigSep Finset.univ fun h : Fin 4 => Φ ⟨24 + h.val, by omega⟩) := by
  rw [bigSep_univ_equiv (finSumFinEquiv (m := 24) (n := 4)) (Φ := Φ), bigSep_univ_sum]
  rfl

/-- What the sends return and what stayed behind: the staging block, and the other half of each window. -/
theorem sources_back :
    (iprop((bigSep Finset.univ fun n : Fin 28 => src3 c n ((sent A).v3 c n)) ∗ bigSep Finset.univ fun n : Fin 28 => kept A c n) : sProp 𝕄)
      ⊢ iprop((bigSep Finset.univ fun h : Fin 4 => anyAt c (winS bS3 h)) ∗ bigSep Finset.univ fun n : Fin 28 => came A c n fullShare.right) := by
  rw [four_first, four_last (fun n => kept A c n), four_last (fun n => came A c n fullShare.right)]
  have e1 : (bigSep Finset.univ fun m : Fin 24 => kept A c ⟨m.val, by omega⟩) = (iprop(emp) : sProp 𝕄) :=
    (bigSep_congr (Ψ := fun _ => iprop(emp)) fun m _ => if_pos m.isLt).trans (bigSep_emp_const _)
  have e2 : (bigSep Finset.univ fun h : Fin 4 => kept A c ⟨24 + h.val, by omega⟩) = bigSep Finset.univ fun h : Fin 4 => came A c ⟨24 + h.val, by omega⟩ fullShare.right :=
    bigSep_congr fun h _ => if_neg (show ¬ 24 + h.val < 24 by omega)
  have e3 : (bigSep Finset.univ fun m : Fin 24 => src3 c ⟨m.val + 4, by omega⟩ ((sent A).v3 c ⟨m.val + 4, by omega⟩))
      = bigSep Finset.univ fun m : Fin 24 => came A c ⟨m.val, by omega⟩ fullShare.right :=
    bigSep_congr fun m _ => by
      rw [passed A ⟨m.val, by omega⟩ ⟨m.val + 4, by omega⟩ rfl]
      exact src3_hi (⟨m.val, by omega⟩ : Fin 28) (by show m.val + 4 < 28; omega) _
  rw [e1, e2, e3]
  have e4 : (bigSep Finset.univ fun h : Fin 4 => src3 c ⟨h.val, by omega⟩ ((sent A).v3 c ⟨h.val, by omega⟩) : sProp 𝕄) ⊢ bigSep Finset.univ fun h : Fin 4 => anyAt c (winS bS3 h) :=
    bigSep_mono fun h _ => (Entails.of_eq (src3_lo h (by omega) _)).trans (any_of _ _)
  iintro ⟨⟨H1, H2⟩, -, H3⟩
  isplitl [H1]; · iapply e4; iexact H1
  isplitl [H2]; · iexact H2
  iexact H3

theorem came_any (n : Fin 28) : (iprop(came A c n fullShare.left ∗ came A c n fullShare.right) : sProp 𝕄) ⊢ anyAt c (win7 bR3 n) := by
  rw [← came_split]; exact any_of _ _

theorem end3 : (done3 A c : sProp 𝕄) ⊢ iprop((bigSep Finset.univ fun n : Fin 28 => spent c (.inr (.inr n))) ∗ heldAny c cc0_scratch8 ∗ heldAny c cc0_scratch9) := by
  unfold done3
  rw [stages_all]
  unfold back3
  rw [bigSep_sep', bigSep_sep', bigSep_sep']
  have e : (iprop((bigSep Finset.univ fun n : Fin 28 => came A c n fullShare.left) ∗ bigSep Finset.univ fun n : Fin 28 => came A c n fullShare.right) : sProp 𝕄)
      ⊢ heldAny c cc0_scratch9 := by
    refine (Entails.of_eq (bigSep_sep' _ _ _).symm).trans ((bigSep_mono fun n _ => came_any A n).trans (mend7 bR3 (View.set_whole cc0_scratch9)))
  iintro ⟨Hl, Ha, Hs⟩
  ihave ⟨H8, Hr⟩ := (sources_back A) $$ Hs
  isplitl [Ha]; · iexact Ha
  isplitl [H8]; · iapply mend8; iexact H8
  iapply e; isplitl [Hl]; · iexact Hl
  iexact Hr

/-! ## The whole body -/

/-- The scratch buffers. -/
def scratch (c : Dev nD) : sProp 𝕄 :=
  iprop(raw4 (F := F) c ∗ heldAny (F := F) c cc0_scratch4 ∗ heldAny (F := F) c cc0_scratch5 ∗ heldAny (F := F) c cc0_scratch6 ∗ heldAny (F := F) c cc0_scratch7
    ∗ heldAny (F := F) c cc0_scratch8 ∗ heldAny (F := F) c cc0_scratch9)
/-- Before the body. -/
def before (c : Dev nD) : sProp 𝕄 :=
  iprop(owesAny c (owed₀ c) ∗ bar c 0 ∗ bar c 1 ∗ toks c ∗ ins A c ∗ outAny c ∗ scratch c)
/-- After the body. -/
def after (c : Dev nD) : sProp 𝕄 :=
  iprop(owesAny c 0 ∗ atPos ER (kcell (c, .inl 0)) 1 ∅ 0 ∗ atPos ER (kcell (c, .inl 1)) 1 ∅ 0 ∗ overs c ∗ ins A c ∗ held c cc0_stg4_0 (outAt A c) ∗ scratch c)

/-- What a device has in hand between entry and the first phase, beside what `ins` and the output are. -/
def wait0 (c : Dev nD) : sProp 𝕄 := iprop(bar (F := F) c 1 ∗ toks (F := F) c ∗ slots1 (F := F) c ∗ slots2 (F := F) c ∗ heldAny (F := F) c cc0_scratch8)
def wait1 (c : Dev nD) : sProp 𝕄 := iprop(ins A c ∗ atPos ER (kcell (c, .inl 0)) 1 ∅ 0 ∗ bar (F := F) c 1 ∗ ready2 A c ∗ ready3 A c ∗ heldAny (F := F) c cc0_scratch8)

theorem before_entry : before A c ⊢ iprop((owesAny c (owed₀ c) ∗ bar c 0 ∗ landsRing c ∗ landsPlane c) ∗ (ins A c ∗ raw4 c ∗ outAny c) ∗ wait0 c) := by
  unfold before scratch wait0
  iintro ⟨HO, Hb, Hx, Ht, Hi, Ho, Hr, H4, H5, H6, H7, H8, H9⟩
  isplitl [HO Hb H5 H9 H7]
  · isplitl [HO]; · iexact HO
    isplitl [Hb]; · iexact Hb
    isplitl [H5 H9]
    · iapply cut_R; isplitl [H5]; · iexact H5
      iexact H9
    iapply cut_R2; iexact H7
  isplitl [Hi Hr Ho]
  · isplitl [Hi]; · iexact Hi
    isplitl [Hr]; · iexact Hr
    iexact Ho
  isplitl [Hx]; · iexact Hx
  isplitl [Ht]; · iexact Ht
  isplitl [H4]; · iapply cut_S1; iexact H4
  isplitl [H6]; · iapply cut_S2; iexact H6
  iexact H8

theorem before_phase1 :
    iprop((ins A c ∗ sources A c ∗ outP c (J0 A c)) ∗ (owesAny c (owed c 0) ∗ atPos ER (kcell (c, .inl 0)) 1 ∅ 0 ∗ landsRing (right c) ∗ landsPlane (up c)) ∗ wait0 c)
      ⊢ iprop((S1 A c (J0 A c) 0 0 ∗ sources A c) ∗ wait1 A c) := by
  rw [show S1 A c (J0 A c) 0 0 = iprop(front c 0 (J0 A c) ∗ ready1 A c) from rfl]
  unfold wait0 wait1 front
  iintro ⟨⟨Hi, Hs, Ho⟩, ⟨HO, Ha, Hr, Hp⟩, Hx, Ht, Z1, Z2, H8⟩
  ihave ⟨R1, R2, R3⟩ := (ready A) $$ [Ht Hr Hp Z1 Z2]
  · isplitl [Ht]; · iexact Ht
    isplitl [Hr]; · iexact Hr
    isplitl [Hp]; · iexact Hp
    isplitl [Z1]; · iexact Z1
    iexact Z2
  isplitl [HO Ho R1 Hs]
  · isplitl [HO Ho R1]
    · isplitl [HO Ho]
      · isplitl [HO]; · iexact HO
        iexact Ho
      iexact R1
    iexact Hs
  isplitl [Hi]; · iexact Hi
  isplitl [Ha]; · iexact Ha
  isplitl [Hx]; · iexact Hx
  isplitl [R2]; · iexact R2
  isplitl [R3]; · iexact R3
  iexact H8

theorem before_phase2 :
    iprop((S1 A c (J1 A c 6 4) 28 28 ∗ sources A c) ∗ wait1 A c)
      ⊢ iprop(S2 A c (J2 A c 0 0) 0 0 ∗ sources A c ∗ done1 A c ∗ ins A c ∗ atPos ER (kcell (c, .inl 0)) 1 ∅ 0 ∗ bar (F := F) c 1 ∗ ready3 A c ∗ heldAny (F := F) c cc0_scratch8) := by
  rw [show S1 A c (J1 A c 6 4) 28 28 = iprop(front c 28 (J1 A c 6 4) ∗ done1 A c) from rfl,
    show S2 A c (J2 A c 0 0) 0 0 = iprop(front c 28 (J2 A c 0 0) ∗ ready2 A c) from rfl]
  unfold wait1
  iintro ⟨⟨⟨Hf, D1⟩, Hs⟩, Hi, Ha, Hx, R2, R3, H8⟩
  isplitl [Hf R2]
  · isplitl [Hf]; · iapply (front_mono (j2_start A c)); iexact Hf
    iexact R2
  isplitl [Hs]; · iexact Hs
  isplitl [D1]; · iexact D1
  isplitl [Hi]; · iexact Hi
  isplitl [Ha]; · iexact Ha
  isplitl [Hx]; · iexact Hx
  isplitl [R3]; · iexact R3
  iexact H8

theorem front_split (b : ℕ) (P Q : FVec F S1024x1024 .f32 → Prop) (h : ∀ f, P f → Q f) : (front c b P : sProp 𝕄) ⊢ iprop(owesAny c (owed c b) ∗ outP c Q) := by
  unfold front
  exact sep_mono_right (outP_mono h)

theorem before_phase3 :
    iprop(S2 A c (J2 A c 5 2) 12 12 ∗ sources A c ∗ done1 A c ∗ ins A c ∗ atPos ER (kcell (c, .inl 0)) 1 ∅ 0 ∗ bar (F := F) c 1 ∗ ready3 A c ∗ heldAny (F := F) c cc0_scratch8)
      ⊢ iprop(((S3 A c 0 0 ∗ heldAny c cc0_scratch8) ∗ outP c (J3 A c 0)) ∗ done2 A c ∗ sources A c ∗ done1 A c ∗ ins A c ∗ atPos ER (kcell (c, .inl 0)) 1 ∅ 0 ∗ bar (F := F) c 1) := by
  rw [show S2 A c (J2 A c 5 2) 12 12 = iprop(front c 40 (J2 A c 5 2) ∗ done2 A c) from rfl,
    show S3 A c 0 0 = iprop(owesAny c (owed c 40) ∗ ready3 A c) from rfl]
  iintro ⟨⟨Hf, D2⟩, Hs, D1, Hi, Ha, Hx, R3, H8⟩
  ihave ⟨HO, Ho⟩ := (front_split 40 (J2 A c 5 2) (J3 A c 0) (j3_start A c)) $$ Hf
  isplitl [HO R3 H8 Ho]
  · isplitl [HO R3 H8]
    · isplitl [HO R3]
      · isplitl [HO]; · iexact HO
        iexact R3
      iexact H8
    iexact Ho
  isplitl [D2]; · iexact D2
  isplitl [Hs]; · iexact Hs
  isplitl [D1]; · iexact D1
  isplitl [Hi]; · iexact Hi
  isplitl [Ha]; · iexact Ha
  iexact Hx

theorem raw_back : (sources A c : sProp 𝕄) ⊢ raw4 c := by
  unfold sources rounded raw4
  iintro ⟨H0, H1, H2, H3⟩
  isplitl [H0]; · iexists _; iexact H0
  isplitl [H1]; · iexists _; iexact H1
  isplitl [H2]; · iexists _; iexact H2
  iexists _; iexact H3

theorem out_back : (outP c (J3 A c 7) : sProp 𝕄) ⊢ held c cc0_stg4_0 (outAt A c) := by
  unfold outP
  iintro ⟨%f, %hf, H⟩
  rw [← j3_end A c f hf]; iexact H

theorem before_leave :
    iprop((S3 A c 28 28 ∗ outP c (J3 A c 7)) ∗ done2 A c ∗ sources A c ∗ done1 A c ∗ ins A c ∗ atPos ER (kcell (c, .inl 0)) 1 ∅ 0 ∗ bar (F := F) c 1)
      ⊢ iprop((owesAny c (owed c 68) ∗ bar c 1) ∗ overs c ∗ scratch c ∗ held c cc0_stg4_0 (outAt A c) ∗ ins A c ∗ atPos ER (kcell (c, .inl 0)) 1 ∅ 0) := by
  rw [show S3 A c 28 28 = iprop(owesAny c (owed c 68) ∗ done3 A c) from rfl]
  unfold overs scratch
  rw [by_phase]
  iintro ⟨⟨⟨HO, D3⟩, Ho⟩, D2, Hs, D1, Hi, Ha, Hx⟩
  ihave ⟨T1, H4, H5⟩ := (end1 A) $$ D1
  ihave ⟨T2, H6, H7⟩ := (end2 A) $$ D2
  ihave ⟨T3, H8, H9⟩ := (end3 A) $$ D3
  isplitl [HO Hx]
  · isplitl [HO]; · iexact HO
    iexact Hx
  isplitl [T1 T2 T3]
  · isplitl [T1]; · iexact T1
    isplitl [T2]; · iexact T2
    iexact T3
  isplitl [Hs H4 H5 H6 H7 H8 H9]
  · isplitl [Hs]; · iapply (raw_back A); iexact Hs
    isplitl [H4]; · iexact H4
    isplitl [H5]; · iexact H5
    isplitl [H6]; · iexact H6
    isplitl [H7]; · iexact H7
    isplitl [H8]; · iexact H8
    iexact H9
  isplitl [Ho]; · iapply (out_back A); iexact Ho
  isplitl [Hi]; · iexact Hi
  iexact Ha

theorem tri_whole : Tri (sent A) K c (before A c) (whole c) (after A c) := by
  refine Tri.seq ((tri_entry.frame _).conseq (before_entry A) (Entails.refl _)) ?_
  refine Tri.seq ((tri_phase0 A).within iprop((owesAny c (owed c 0) ∗ atPos ER (kcell (c, .inl 0)) 1 ∅ 0 ∗ landsRing (right c) ∗ landsPlane (up c)) ∗ wait0 c) (by ac_rfl) rfl) ?_
  refine Tri.seq (((tri_phase1 A).frame _).conseq (before_phase1 A) (Entails.refl _)) ?_
  refine Tri.seq (((tri_phase2 A).frame _).conseq (before_phase2 A) (Entails.refl _)) ?_
  refine Tri.seq (((tri_phase3 A).frame _).conseq (before_phase3 A) (Entails.refl _)) ?_
  refine (tri_leave.frame _).conseq (before_leave A) (Entails.of_eq ?_)
  unfold after
  ac_rfl

end Cert.KProof
-- ==== Proof.Body.lean ====
/-
# `Body`: the printed body is the list of steps
-/
module

public import proofs.«01_k».proof.Proof.Steps

@[expose] public section

noncomputable section

namespace Cert.KProof

open Cert.KernelIdeal Cert.KernelIdeal.Gen
open Idealize.ShloMosaic Idealize.SL.Sem

variable {F : FTy → Type} [FloatOps F]

universe v
/-- Two programs that request the same effect and go on alike are the same. -/
theorem op_congr {E : Type → Type v} {α β : Type} {e e' : E β} {k k' : β → Prog E α} (he : e = e') (hk : ∀ x, k x = k' x) :
    Prog.op e k = Prog.op e' k' := by subst he; exact congrArg _ (funext hk)

set_option maxRecDepth 100000 in
set_option maxHeartbeats 0 in
theorem body_eq : (cc0_body bX (Memref.isWhole_whole _) bWg (Memref.isWhole_whole _) bWu (Memref.isWhole_whole _) bWd (Memref.isWhole_whole _) bOut (Memref.isWhole_whole _) bX16 (Memref.isWhole_whole _) bWg16 (Memref.isWhole_whole _) bWu16 (Memref.isWhole_whole _) bWd16 (Memref.isWhole_whole _) bS1 (Memref.isWhole_whole _) bR1 (Memref.isWhole_whole _) bS2 (Memref.isWhole_whole _) bR2 (Memref.isWhole_whole _) bS3 (Memref.isWhole_whole _) bR3 (Memref.isWhole_whole _) cc0_scratch10 cc0_scratch11 cc0_scratch12 cc0_scratch13 cc0_scratch14 cc0_scratch15 cc0_scoped0 : Act F PUnit)
    = Prog.lift .deviceId >>= whole := by
  repeat refine op_congr rfl fun _ => ?_
  rfl

end Cert.KProof
-- ==== Proof.Launch.lean ====
/-
# `Launch`: from the body on one device to the run on the mesh

The pipeline's proof data and its body obligation: the body takes what the launch deals a device and leaves the four
inputs as they were, the output at its value, and every semaphore back at zero.
-/
module

public import proofs.«01_k».proof.Proof.Whole
public import proofs.«01_k».proof.Proof.Body
public import proofs.«01_k».proof.Proof.Gen.KernelIdeal.Points
public import Idealize.ShloMosaic.Lib.Rounds.Family

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What the devices start from, read off the memory. -/
def args : Args F where
  x c := m ((c : Thread nD τ).loc main_arg0)
  g c := m ((c : Thread nD τ).loc main_arg1)
  u c := m ((c : Thread nD τ).loc main_arg2)
  d c := m ((c : Thread nD τ).loc main_arg3)

/-! ## The pipeline's proof data -/

/-- What a device has of the protocol at launch: the records under some names, both barriers, its transfers. -/
def start (c : Dev nD) : sProp 𝕄 := iprop((∃ K, recs (sent (args m)) K) ∗ bar c 0 ∗ bar c 1 ∗ toks c)
def Φ₀ (c : Dev nD) : sProp 𝕄 := iprop(start m c ∗ scratch c)
/-- At the end: the scratch buffers, and every semaphore of the kernel at zero. -/
def Φ₁ (c : Dev nD) : sProp 𝕄 := iprop(scratch (F := F) c ∗ bigSep Finset.univ fun k : Ck => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => (args m).x c
    | ⟨1, _⟩ => (args m).g c
    | ⟨2, _⟩ => (args m).u c
    | ⟨3, _⟩ => (args m).d c
    | ⟨4, _⟩ => outAt (args m) c
  Φ t := match t with
    | ⟨0, _⟩ => Φ₀ m c
    | ⟨_ + 1, _⟩ => Φ₁ c
  q _ := fullShare
  owed t := match t with
    | ⟨0, _⟩ => owed₀ c
    | ⟨_ + 1, _⟩ => 0

/-! ## The windows are whole arrays -/

theorem read_in0 (f : main_arg0.ty.Contents (Elt F)) : (win0_0.blk t0_0).view.read (Elt F) f = f :=
  Memref.read_access_unit_zero (Elt F) main_arg0 (funext fun a => by fin_cases a <;> decide) (fun a => by fin_cases a <;> decide) f
theorem read_in1 (f : main_arg1.ty.Contents (Elt F)) : (win0_1.blk t0_0).view.read (Elt F) f = f :=
  Memref.read_access_unit_zero (Elt F) main_arg1 (funext fun a => by fin_cases a <;> decide) (fun a => by fin_cases a <;> decide) f
theorem read_in2 (f : main_arg2.ty.Contents (Elt F)) : (win0_2.blk t0_0).view.read (Elt F) f = f :=
  Memref.read_access_unit_zero (Elt F) main_arg2 (funext fun a => by fin_cases a <;> decide) (fun a => by fin_cases a <;> decide) f
theorem read_in3 (f : main_arg3.ty.Contents (Elt F)) : (win0_3.blk t0_0).view.read (Elt F) f = f :=
  Memref.read_access_unit_zero (Elt F) main_arg3 (funext fun a => by fin_cases a <;> decide) (fun a => by fin_cases a <;> decide) f
theorem read_out (f : main_v1.ty.Contents (Elt F)) : (win0_4.blk t0_0).view.read (Elt F) f = f :=
  Memref.read_access_unit_zero (Elt F) main_v1 (funext fun a => by fin_cases a <;> decide) (fun a => by fin_cases a <;> decide) f

theorem before_in0 (c : Dev nD) (d) : (dats m 0 c).before (0 : Fin 5) t0_0 d = (args m).x c := by
  unfold Dat.before; rw [if_pos (fetch0_0 t0_0)]; exact read_in0 (F := F) _
theorem before_in1 (c : Dev nD) (d) : (dats m 0 c).before (1 : Fin 5) t0_0 d = (args m).g c := by
  unfold Dat.before; rw [if_pos (fetch0_1 t0_0)]; exact read_in1 (F := F) _
theorem before_in2 (c : Dev nD) (d) : (dats m 0 c).before (2 : Fin 5) t0_0 d = (args m).u c := by
  unfold Dat.before; rw [if_pos (fetch0_2 t0_0)]; exact read_in2 (F := F) _
theorem before_in3 (c : Dev nD) (d) : (dats m 0 c).before (3 : Fin 5) t0_0 d = (args m).d c := by
  unfold Dat.before; rw [if_pos (fetch0_3 t0_0)]; exact read_in3 (F := F) _

theorem held_of (c : Dev nD) (b : Ref sig .tc) (X : b.ty.Contents (Elt F)) :
    (iprop(∃ f : Buf (Elt F) (((c : Dev nD) : Thread nD τ).loc b), ⌜f = X⌝ ∗ (((c : Thread nD τ).loc b) ↦{fullShare} f)) : sProp 𝕄) ⊢ held c b X := by
  iintro ⟨%f, %hf, H⟩; subst hf; iexact H
theorem held_to (c : Dev nD) (b : Ref sig .tc) (X : b.ty.Contents (Elt F)) :
    held c b X ⊢ (iprop(∃ f : Buf (Elt F) (((c : Dev nD) : Thread nD τ).loc b), ⌜f = X⌝ ∗ (((c : Thread nD τ).loc b) ↦{fullShare} f)) : sProp 𝕄) := by
  iintro H; iexists X; isplitr; · ipureintro; rfl
  iexact H
/-- A staging buffer at contents `X`. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  have : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [this]
  exact equiv_iff.mp ⟨held_of c b X, held_to c b X⟩

/-! ## The semaphores return to zero -/

variable {K : Dev nD × Ck → ℕ} {c : Dev nD}

/-- The rounds of a device's cells, all over. -/
def past (c : Dev nD) : sProp 𝕄 :=
  iprop(atPos ER (kcell (c, .inl 0)) 1 ∅ 0 ∗ atPos ER (kcell (c, .inl 1)) 1 ∅ 0 ∗ overs (F := F) c)

/-- Something of each cell of a device: of its two barriers and of its transfers' cells. -/
theorem by_cell (Φ : Ck → sProp 𝕄) : bigSep Finset.univ Φ
    = iprop((Φ (.inl 0) ∗ Φ (.inl 1)) ∗ bigSep Finset.univ fun t : Xf => iprop(Φ (.inr (.inl t)) ∗ Φ (.inr (.inr t)))) := by
  rw [bigSep_univ_sum, bigSep_univ_sum (Φ := fun b => Φ (Sum.inr b)), bigSep_sep',
    bigSep_univ_eq_bigSepL [(0 : Fin 2), 1] (by decide) (by decide)]
  rfl

theorem past_cells : (past c : sProp 𝕄) = bigSep Finset.univ fun k : Ck => atPos ER (kcell (c, k)) 1 ∅ 0 := by
  rw [by_cell]
  show iprop(_ ∗ _ ∗ overs c) = iprop((_ ∗ _) ∗ overs c)
  ac_rfl

theorem recs_cells (V : Sent F) : recs V K ⊢ bigSep Finset.univ fun k : Ck => cellInv ER (sched V) (K (c, k)) (kcell (c, k)) :=
  (BI.bigSep_of_persistent Finset.univ (recs V K)).trans (bigSep_mono fun k _ => recs_inv V K (c, k))

theorem close_all (V : Sent F) : iprop(recs V K ∗ past c) ⊢ (|={Set.univ}=> bigSep Finset.univ fun k : Ck => semVal (kcell (c, k)) 0 : sProp 𝕄) := by
  rw [past_cells]
  have h := Rounds.cells_close ER (sched V) Finset.univ (fun k : Ck => kcell (c, k)) (fun k => K (c, k))
    (fun _ _ => Set.mem_univ _) (fun _ _ h => h) (fun _ => 1) (fun k _ r hr => duties_later V (kcell (c, k)) r hr)
  rw [bigSep_sep'] at h
  exact (sep_mono_left (recs_cells V)).trans h

/-! ## The body obligation -/

def bodyPre (c : Dev nD) : sProp 𝕄 :=
  iprop(Φ₀ m c ∗ (dats m 0 c).owesAt () t0_0.castSucc
    ∗ (∃ d, held c cc0_stg0_0 ((dats m 0 c).before (0 : Fin 5) t0_0 d))
    ∗ (∃ d, held c cc0_stg1_0 ((dats m 0 c).before (1 : Fin 5) t0_0 d))
    ∗ (∃ d, held c cc0_stg2_0 ((dats m 0 c).before (2 : Fin 5) t0_0 d))
    ∗ (∃ d, held c cc0_stg3_0 ((dats m 0 c).before (3 : Fin 5) t0_0 d))
    ∗ (∃ d, held c cc0_stg4_0 ((dats m 0 c).before (4 : Fin 5) t0_0 d)))
def bodyPost (c : Dev nD) : sProp 𝕄 :=
  iprop(Φ₁ c ∗ (dats m 0 c).owesAt () t0_0.succ ∗ held c cc0_stg0_0 ((args m).x c) ∗ held c cc0_stg1_0 ((args m).g c)
    ∗ held c cc0_stg2_0 ((args m).u c) ∗ held c cc0_stg3_0 ((args m).d c) ∗ held c cc0_stg4_0 (outAt (args m) c))

theorem pre_before : bodyPre m c ⊢ iprop(∃ K, recs (sent (args m)) K ∗ before (args m) c) := by
  unfold bodyPre Φ₀ start before ins outAny outP
  simp only [before_in0, before_in1, before_in2, before_in3]
  unfold Dat.owesAt Pipeline.owesWithin owesAny
  rw [show (dats m 0 c).owed t0_0.castSucc = owed₀ c from rfl]
  iintro ⟨⟨⟨⟨%K, HK⟩, Hb0, Hb1, Ht⟩, Hs⟩, ⟨%W, -, HO⟩, ⟨%d0, H0⟩, ⟨%d1, H1⟩, ⟨%d2, H2⟩, ⟨%d3, H3⟩, ⟨%d4, H4⟩⟩
  iexists K
  isplitl [HK]; · iexact HK
  isplitl [HO]; · iexists W; iexact HO
  isplitl [Hb0]; · iexact Hb0
  isplitl [Hb1]; · iexact Hb1
  isplitl [Ht]; · iexact Ht
  isplitl [H0 H1 H2 H3]
  · isplitl [H0]; · iexact H0
    isplitl [H1]; · iexact H1
    isplitl [H2]; · iexact H2
    iexact H3
  isplitl [H4]
  · iexists _; isplitr; · ipureintro; trivial
    iexact H4
  iexact Hs

theorem after_post : iprop(recs (sent (args m)) K ∗ after (args m) c) ⊢ (|={Set.univ}=> bodyPost m c : sProp 𝕄) := by
  unfold after bodyPost Φ₁ ins
  iintro ⟨HK, HO, A0, A1, Ho, ⟨H0, H1, H2, H3⟩, H4, Hs⟩
  imod (close_all (K := K) (c := c) (sent (args m))) $$ [HK A0 A1 Ho] with Hz
  · unfold past
    isplitl [HK]; · iexact HK
    isplitl [A0]; · iexact A0
    isplitl [A1]; · iexact A1
    iexact Ho
  imodintro
  isplitl [Hs Hz]
  · isplitl [Hs]; · iexact Hs
    iexact Hz
  isplitl [HO]
  · unfold owesAny Dat.owesAt Pipeline.owesWithin
    rw [show (dats m 0 c).owed t0_0.succ = 0 from rfl]
    icases HO with ⟨%W, HO⟩
    iexists W; isplitr; · ipureintro; exact fun _ _ => Or.inl trivial
    iexact HO
  isplitl [H0]; · iexact H0
  isplitl [H1]; · iexact H1
  isplitl [H2]; · iexact H2
  isplitl [H3]; · iexact H3
  iexact H4

theorem keep_recs {V : Sent F} {K : Dev nD × Ck → ℕ} (P : sProp (MT nD τ sig Unit (Elt F) ℕ UU ℕ)) :
    iprop(recs V K ∗ P) ⊢ (iprop(recs V K ∗ (recs V K ∗ P)) : sProp 𝕄) := by
  iintro ⟨#HK, Hb⟩
  isplitr; · iexact HK
  isplitr; · iexact HK
  iexact Hb

/-- A triple of a program on core `c`, finished by a step that opens invariants. -/
theorem tri_finish {V : Sent F} {K : Dev nD × Ck → ℕ} {c : Dev nD} {P Q R : sProp (MT nD τ sig Unit (Elt F) ℕ UU ℕ)} {p : Act F PUnit}
    (h : Tri V K c P p Q) (hQ : iprop(recs V K ∗ Q) ⊢ |={Set.univ}=> R) :
    iprop(recs V K ∗ P) ⊢ wp frame (wpE (defs₀ (F := F)) 𝒱₀ (c : Thread nD τ) none) Set.univ p (fun _ => R) := by
  unfold Tri at h
  refine BI.Entails.trans ?_ (wp_fupd frame (wpE (defs₀ (F := F)) 𝒱₀ (c : Thread nD τ) none) Set.univ p (fun _ => R))
  refine BI.Entails.trans ?_ (wp_mono frame (wpE (defs₀ (F := F)) 𝒱₀ (c : Thread nD τ) none) Set.univ fun _ => hQ)
  refine BI.Entails.trans ?_ (wp_frame_l frame (wpE (defs₀ (F := F)) 𝒱₀ (c : Thread nD τ) none) Set.univ)
  exact (keep_recs P).trans (sep_mono_right h)

theorem sound_at (c : Dev nD) :
    iprop(recs (sent (args m)) K ∗ before (args m) c)
      ⊢ wp frame (wpE (defs₀ (F := F)) 𝒱₀ (c : Thread nD τ) none) Set.univ (whole c) (fun _ => bodyPost m c) :=
  tri_finish ((tri_whole (args m) : Tri (sent (args m)) K c _ _ _)) (after_post m (K := K) (c := c))

theorem sound_whole (c : Dev nD) :
    bodyPre m c ⊢ wp frame (wpE (defs₀ (F := F)) 𝒱₀ (c : Thread nD τ) none) Set.univ (whole c) (fun _ => bodyPost m c) := by
  refine (pre_before m).trans ?_
  iintro ⟨%K, HK, Hb⟩
  iapply (sound_at m (K := K) c)
  isplitl [HK]; · iexact HK
  iexact Hb

theorem body_at : defs₀ (F := F) .tc cfg0.body (cfg0.bodyArgs t0_0 (cfg0.slots t0_0))
    = cc0_body bX (Memref.isWhole_whole _) bWg (Memref.isWhole_whole _) bWu (Memref.isWhole_whole _) bWd (Memref.isWhole_whole _) bOut (Memref.isWhole_whole _) bX16 (Memref.isWhole_whole _) bWg16 (Memref.isWhole_whole _) bWu16 (Memref.isWhole_whole _) bWd16 (Memref.isWhole_whole _) bS1 (Memref.isWhole_whole _) bR1 (Memref.isWhole_whole _) bS2 (Memref.isWhole_whole _) bR2 (Memref.isWhole_whole _) bS3 (Memref.isWhole_whole _) bR3 (Memref.isWhole_whole _) cc0_scratch10 cc0_scratch11 cc0_scratch12 cc0_scratch13 cc0_scratch14 cc0_scratch15 cc0_scoped0 := rfl

theorem pre_at (c : Dev nD) : iprop((dats m 0 c).Φ t0_0.castSucc ∗ (dats m 0 c).owesAt () t0_0.castSucc
    ∗ (∃ d, held c cc0_stg0_0 ((dats m 0 c).before (0 : Fin 5) t0_0 d))
    ∗ (∃ d, held c cc0_stg1_0 ((dats m 0 c).before (1 : Fin 5) t0_0 d))
    ∗ (∃ d, held c cc0_stg2_0 ((dats m 0 c).before (2 : Fin 5) t0_0 d))
    ∗ (∃ d, held c cc0_stg3_0 ((dats m 0 c).before (3 : Fin 5) t0_0 d))
    ∗ (∃ d, held c cc0_stg4_0 ((dats m 0 c).before (4 : Fin 5) t0_0 d))) = bodyPre m c := rfl

theorem post_at (c : Dev nD) : iprop((dats m 0 c).Φ t0_0.succ ∗ (dats m 0 c).owesAt () t0_0.succ
    ∗ held c cc0_stg0_0 ((dats m 0 c).after (0 : Fin 5) t0_0)
    ∗ held c cc0_stg1_0 ((dats m 0 c).after (1 : Fin 5) t0_0)
    ∗ held c cc0_stg2_0 ((dats m 0 c).after (2 : Fin 5) t0_0)
    ∗ held c cc0_stg3_0 ((dats m 0 c).after (3 : Fin 5) t0_0)
    ∗ held c cc0_stg4_0 ((dats m 0 c).after (4 : Fin 5) t0_0)) = bodyPost m c := rfl

set_option maxRecDepth 100000 in
set_option maxHeartbeats 0 in
/-- The library's body obligation on core `c`. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_held]
  rw [body_at, body_eq]
  simp only [Prog.lift, Prog.bind_op, Prog.bind_ret, wp_deviceId]
  refine BI.Entails.trans (Entails.of_eq (pre_at m c)) ((sound_whole m c).trans ?_)
  exact wp_mono frame (wpE (defs₀ (F := F)) 𝒱₀ (c : Thread nD τ) none) Set.univ fun _ => Entails.of_eq (post_at m c).symm

end Cert.KProof
-- ==== Proof.Deal.lean ====
/-
# `Deal`: what the launch deals each device

The launch mints every cell's round and every duty's token on the device whose cell it is. Here the rounds become
invariants, and the tokens go to the devices that pay the duties: round the ring and across the planes.
-/
module

public import proofs.«01_k».proof.Proof.Launch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The scoped ones: the exit barrier's, and the transfers'. -/
def own : Unit ⊕ (Xf ⊕ Xf) → Ck | .inl _ => .inl 1 | .inr t => .inr t
def osem (k : Unit ⊕ (Xf ⊕ Xf)) : SemLoc sig := csem (own k)

theorem own_inj : Function.Injective own := by
  rintro (a | a) (b | b) h
  · rfl
  · cases h
  · cases h
  · exact congrArg Sum.inr (Sum.inr.inj h)

theorem stage_no (w : Fin cfg0.W) (s : Fin (cfg0.spec w).nbuf) : ((cfg0.spec w).sem s).val < 5 := by revert s; revert w; decide

theorem csem_ne_stage (k : Ck) (q : DmaSem sig) (hq : q.val < 5) : csem k ≠ .dma q := by
  intro h
  rcases k with k | t | t
  · fin_cases k <;> cases h
  · have h' : ssem t = q := SemLoc.dma.inj h
    have := ssem_val t
    rw [h'] at this
    rcases t with a | a | a <;> simp only [sendNo] at this <;> omega
  · have h' : rsem t = q := SemLoc.dma.inj h
    have := rsem_val t
    rw [h'] at this
    rcases t with a | a | a <;> simp only [recvNo] at this <;> omega

theorem own_scoped (k : Unit ⊕ (Xf ⊕ Xf)) : (osem k).isScoped .tc = true := by revert k; decide +kernel

theorem ownSemFacts : Pipeline.OwnSemFacts cfg0.spec osem :=
  ⟨own_scoped, csem_inj.comp own_inj, fun k w s => csem_ne_stage (own k) _ (stage_no w s)⟩

theorem share_eq (c : Dev nD) (w : Fin cfg0.W) : (dats m 0 c).share w = fullShare := by unfold Dat.share; split <;> rfl

/-! ## What is minted -/

def ringCells : Finset (GSem nD τ sig) := Finset.univ.map ⟨kcell, kcell_inj⟩

/-- A device's duties, by the cell they are minted on: four at each barrier, one at each transfer's cell. -/
abbrev Duty : Type := (Fin 2 × Fin 4) ⊕ (Xf ⊕ Xf)
def dutyCell : Duty → Ck × Fin 4 | .inl (i, d) => (.inl i, d) | .inr t => (.inr t, 0)
theorem dutyCell_inj : Function.Injective dutyCell := by
  rintro (⟨i, d⟩ | a) (⟨j, e⟩ | b) h
  · have h1 : i = j := Sum.inl.inj (congrArg Prod.fst h)
    have h2 : d = e := congrArg Prod.snd h
    rw [h1, h2]
  · cases congrArg Prod.fst h
  · cases congrArg Prod.fst h
  · exact congrArg Sum.inr (Sum.inr.inj (congrArg Prod.fst h))
def tokOf (x : Dev nD × Duty) : GSem nD τ sig × ℕ × Fin 4 := (kcell (x.1, (dutyCell x.2).1), 0, (dutyCell x.2).2)
theorem tokOf_inj : Function.Injective tokOf := by
  rintro ⟨c, a⟩ ⟨c', b⟩ h
  have h1 := kcell_inj (congrArg Prod.fst h)
  have h2 : (dutyCell a).2 = (dutyCell b).2 := congrArg (fun x => x.2.2) h
  have hc : c = c' := congrArg Prod.fst h1
  have hd : (dutyCell a).1 = (dutyCell b).1 := congrArg Prod.snd h1
  rw [hc, dutyCell_inj (Prod.ext hd h2)]
def ringToks : Finset (GSem nD τ sig × ℕ × Fin 4) := Finset.univ.map ⟨tokOf, tokOf_inj⟩

def u₀ : UU :=
  (initOf (Pipeline.cells cfgs cellOf_inj) (Pipeline.launchToks cfgs cellOf_inj), initOf ringCells ringToks)

/-- The tokens of the duties at device `c`'s own cells. -/
def mine (c : Dev nD) : sProp 𝕄 := bigSep Finset.univ fun a : Duty => dutyTok ER (kcell (c, (dutyCell a).1)) 0 (dutyCell a).2
/-- The rounds of device `c`'s own cells. -/
def rounds (c : Dev nD) : sProp 𝕄 := bigSep Finset.univ fun k : Ck => atPos ER (kcell (c, k)) 0 ∅ 0

def G (c : Dev nD) : sProp 𝕄 :=
  iprop((bigSep Finset.univ fun k : Ck => roundState ER (sched (sent (args m))) (kcell (c, k)) 0)
    ∗ rounds c ∗ (bigSep Finset.univ fun k : Ck => reached ER (kcell (c, k)) 0) ∗ mine c)

theorem cells_by_device (Φ : GSem nD τ sig → sProp 𝕄) :
    bigSep ringCells Φ = bigSep Finset.univ fun c : Dev nD => bigSep Finset.univ fun k : Ck => Φ (kcell (c, k)) := by
  unfold ringCells; rw [bigSep_map, bigSep_univ_prod]; rfl
theorem toks_by_device : bigSep ringToks (fun x => (dutyTok ER x.1 x.2.1 x.2.2 : sProp 𝕄)) = bigSep Finset.univ fun c : Dev nD => mine c := by
  unfold ringToks; rw [bigSep_map, bigSep_univ_prod]; rfl

theorem fund_ring : BI.own (ER (initOf ringCells ringToks)) ⊢ (|==> bigSep Finset.univ (G m) : sProp 𝕄) := by
  iintro HX
  imod (Rounds.fund ER (sched (sent (args m))) ringCells ringToks) $$ HX with ⟨Hst, Hr, Hat, Htok⟩
  imodintro
  ihave Hst' := (Entails.of_eq (cells_by_device fun g => roundState ER (sched (sent (args m))) g 0)) $$ Hst
  ihave Hat' := (Entails.of_eq (cells_by_device fun g => atPos ER g 0 ∅ 0)) $$ Hat
  ihave Hr' := (Entails.of_eq (cells_by_device fun g => reached ER g 0)) $$ Hr
  ihave Htok' := (Entails.of_eq toks_by_device) $$ Htok
  unfold G rounds; simp only [bigSep_sep']
  isplitl [Hst']; · iexact Hst'
  isplitl [Hat']; · iexact Hat'
  isplitl [Hr']; · iexact Hr'
  iexact Htok'

/-! ## The tokens go to who pays -/

theorem bars_around (i : Fin 2) :
    (bigSep Finset.univ fun c : Dev nD => bigSep Finset.univ fun d : Fin 4 => (dutyTok ER (kcell (c, .inl i)) 0 d : sProp 𝕄))
      = bigSep Finset.univ fun c : Dev nD => toks4 c i := by
  unfold toks4
  simp only [bigSep_fin4, bigSep_sep']
  rw [bigSep_univ_equiv ringPerm.symm (fun c : Dev nD => (dutyTok ER (kcell (c, .inl i)) 0 0 : sProp 𝕄)),
    bigSep_univ_equiv ringPerm (fun c : Dev nD => (dutyTok ER (kcell (c, .inl i)) 0 1 : sProp 𝕄)),
    bigSep_univ_equiv planePerm (fun c : Dev nD => (dutyTok ER (kcell (c, .inl i)) 0 2 : sProp 𝕄)),
    bigSep_univ_equiv planePerm.symm (fun c : Dev nD => (dutyTok ER (kcell (c, .inl i)) 0 3 : sProp 𝕄))]
  rfl

/-- Over two kinds of index, either first. -/
theorem either_first (Φ : Dev nD → Xf → sProp (MT nD τ sig Unit (Elt F) ℕ UU ℕ)) :
    (bigSep Finset.univ fun c => bigSep Finset.univ fun t => Φ c t) = bigSep Finset.univ fun t => bigSep Finset.univ fun c => Φ c t := by
  rw [← bigSep_univ_prod (fun x : Dev nD × Xf => Φ x.1 x.2), ← bigSep_univ_prod (fun x : Xf × Dev nD => Φ x.2 x.1)]
  exact bigSep_univ_equiv (Equiv.prodComm Xf (Dev nD)) _

theorem lands_around :
    (bigSep Finset.univ fun c : Dev nD => bigSep Finset.univ fun t : Xf => (dutyTok ER (rcell c t) 0 0 : sProp 𝕄))
      = bigSep Finset.univ fun c : Dev nD => bigSep Finset.univ fun t : Xf => dutyTok ER (rcell (tgt t c) t) 0 0 := by
  rw [either_first, either_first (fun (c : Dev nD) (t : Xf) => (dutyTok ER (rcell (tgt t c) t) 0 0 : sProp 𝕄))]
  exact bigSep_congr fun t _ => bigSep_univ_equiv (tgtPerm t) (fun c : Dev nD => (dutyTok ER (rcell c t) 0 0 : sProp 𝕄))

/-- The tokens device `c` pays with. -/
def pay (c : Dev nD) : sProp 𝕄 := iprop(toks4 (F := F) c 0 ∗ toks4 (F := F) c 1 ∗ bigSep Finset.univ fun t : Xf => duty (F := F) c t)

theorem mine_eq (c : Dev nD) : (mine c : sProp 𝕄)
    = iprop(((bigSep Finset.univ fun d : Fin 4 => dutyTok ER (kcell (c, .inl 0)) 0 d) ∗ bigSep Finset.univ fun d : Fin 4 => dutyTok ER (kcell (c, .inl 1)) 0 d)
      ∗ (bigSep Finset.univ fun t : Xf => dutyTok ER (scell c t) 0 0) ∗ bigSep Finset.univ fun t : Xf => dutyTok ER (rcell c t) 0 0) := by
  unfold mine
  rw [bigSep_univ_sum, bigSep_univ_sum (Φ := fun b : Xf ⊕ Xf => dutyTok ER (kcell (c, (dutyCell (.inr b)).1)) 0 (dutyCell (.inr b)).2),
    bigSep_univ_prod, bigSep_univ_eq_bigSepL [(0 : Fin 2), 1] (by decide) (by decide)]
  rfl

theorem toks_around : (bigSep Finset.univ fun c : Dev nD => (mine c : sProp 𝕄)) = bigSep Finset.univ fun c : Dev nD => pay c := by
  unfold pay duty
  simp only [mine_eq, bigSep_sep']
  rw [bars_around, bars_around, lands_around]
  ac_rfl

/-! ## The rounds become invariants -/

theorem unscopedSems0_eq (c : Dev nD) : (unscopedSems0 c : sProp 𝕄) = semVal (kcell (c, .inl 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Ck => semVal (kcell (c, k)) 0 : sProp 𝕄) := by
  rw [unscopedSems0_eq]
  unfold Pipeline.ownSems0
  rw [bigSep_univ_sum, bigSep_univ_sum (Φ := fun k : Ck => (semVal (kcell (c, k)) 0 : sProp 𝕄)),
    bigSep_univ_eq_bigSepL [()] (by decide) (by decide), bigSep_univ_eq_bigSepL [(0 : Fin 2), 1] (by decide) (by decide)]
  show iprop((semVal (kcell (c, .inl 1)) 0 ∗ bigSep Finset.univ fun t : Xf ⊕ Xf => semVal (kcell (c, .inr t)) 0) ∗ semVal (kcell (c, .inl 0)) 0)
    = iprop((semVal (kcell (c, .inl 0)) 0 ∗ semVal (kcell (c, .inl 1)) 0) ∗ bigSep Finset.univ fun t : Xf ⊕ Xf => semVal (kcell (c, .inr t)) 0)
  ac_rfl

theorem open_cells (c : Dev nD) :
    iprop((bigSep Finset.univ fun k : Ck => semVal (kcell (c, k)) 0) ∗ bigSep Finset.univ fun k : Ck => roundState ER (sched (sent (args m))) (kcell (c, k)) 0)
      ⊢ (|={Set.univ}=> bigSep Finset.univ fun k => iprop(∃ κ : ℕ, cellInv ER (sched (sent (args m))) κ (kcell (c, k))) : sProp 𝕄) := by
  rw [← bigSep_sep']
  exact (bigSep_mono fun k _ => (Rounds.body_intro ER (sched (sent (args m))) (kcell (c, k))).trans inv_alloc).trans (bigSep_fupd _ _)

/-- What device `c` has once its cells are open. -/
def opened (c : Dev nD) : sProp 𝕄 :=
  iprop((bigSep Finset.univ fun k => iprop(∃ κ : ℕ, cellInv ER (sched (sent (args m))) κ (kcell (c, k))))
    ∗ rounds c ∗ (bigSep Finset.univ fun k : Ck => reached ER (kcell (c, k)) 0) ∗ mine c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  unfold G opened
  iintro ⟨Hos, Hus, Hst, Hat, Hr, Htok⟩
  ihave Hv := (Entails.of_eq (sems0_eq (F := F) c)) $$ [Hos Hus]
  · isplitl [Hos] <;> iassumption
  imod (open_cells m c) $$ [Hv Hst] with Hinv
  · isplitl [Hv] <;> iassumption
  imodintro
  isplitl [Hinv]; · iexact Hinv
  isplitl [Hat]; · iexact Hat
  isplitl [Hr]; · iexact Hr
  iexact Htok

/-- The records, but for the levels. -/
def known (K : Dev nD × Ck → ℕ) : sProp 𝕄 :=
  iprop((bigSep Finset.univ fun ck : Dev nD × Ck => cellInv ER (sched (sent (args m))) (K ck) (kcell ck))
    ∗ bigSep Finset.univ fun ck : Dev nD × Ck => reached ER (kcell ck) 0)
instance known_persistent (K : Dev nD × Ck → ℕ) : BI.Persistent (known m K) := by unfold known; infer_instance

/-- What the step over all devices gives device `c`. -/
def G' (c : Dev nD) : sProp 𝕄 := iprop((∃ K, known m K) ∗ rounds c ∗ pay c)

theorem with_known {S : Finset (Dev nD)} {R : sProp (MT nD τ sig Unit (Elt F) ℕ UU ℕ)} [BI.Persistent R] {Φ Ψ : Dev nD → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (K : Dev nD × Ck → ℕ) (c : Dev nD) : iprop(known m K ∗ (rounds c ∗ pay c)) ⊢ G' m c := by
  unfold G'
  iintro ⟨HK, H⟩
  isplitl [HK]; · iexists K; iexact HK
  iexact H

theorem regroup : (bigSep Finset.univ fun c : Dev nD => opened m c) ⊢ bigSep Finset.univ (G' m) := by
  unfold opened
  rw [bigSep_sep', bigSep_sep', bigSep_sep', toks_around,
    ← bigSep_univ_prod (fun ck : Dev nD × Ck => iprop(∃ κ : ℕ, cellInv ER (sched (sent (args m))) κ (kcell ck))),
    ← bigSep_univ_prod (fun ck : Dev nD × Ck => (reached ER (kcell ck) 0 : sProp 𝕄))]
  iintro ⟨HI, Hat, HR, Htok⟩
  ihave HK := (BI.bigSep_exists_pi Finset.univ (fun (ck : Dev nD × Ck) (κ : ℕ) => (cellInv ER (sched (sent (args m))) κ (kcell ck) : sProp 𝕄))) $$ HI
  icases HK with ⟨%K, HI⟩
  iapply (with_known (R := known m K) fun c _ => give m K c)
  isplitl [HI HR]
  · unfold known; isplitl [HI]; · iexact HI
    iexact HR
  · rw [bigSep_sep']
    isplitl [Hat]; · iexact Hat
    iexact Htok

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem cred_bar (i : Fin 2) (c : Dev nD) : (Pipeline.launchCred (pays4 i) c : sProp 𝕄) ⊢ cred (tallyAt (kcell (c, .inl i)) () 4) := by
  have h4 : (tallyAt (kcell (c, .inl i)) () 4 : CellTallies nD τ sig Unit)
      = tallyAt (kcell (c, .inl i)) () 1 + tallyAt (kcell (c, .inl i)) () 1 + tallyAt (kcell (c, .inl i)) () 1 + tallyAt (kcell (c, .inl i)) () 1 := by
    simp only [tallyAt_add]
  rw [h4]
  unfold pays4
  rw [Pipeline.launchCred_add, Pipeline.launchCred_add, Pipeline.launchCred_add]
  refine BI.Entails.trans ?_ (cred_add _ _).2
  refine BIClass.sep_mono ?_ (Pipeline.launchCred_tallyAt (csem (.inl i)) left right left_right right_left () 1 c)
  refine BI.Entails.trans ?_ (cred_add _ _).2
  refine BIClass.sep_mono ?_ (Pipeline.launchCred_tallyAt (csem (.inl i)) right left right_left left_right () 1 c)
  refine BI.Entails.trans ?_ (cred_add _ _).2
  exact BIClass.sep_mono (Pipeline.launchCred_tallyAt (csem (.inl i)) down up down_up up_down () 1 c)
    (Pipeline.launchCred_tallyAt (csem (.inl i)) up down up_down down_up () 1 c)

theorem creds (c : Dev nD) : (Pipeline.launchCred owed₀ c : sProp 𝕄)
    ⊢ iprop(((bigSep Finset.univ fun t : Xf => cred (tallyAt (rcell c t) () (amt t))) ∗ cred (tallyAt (kcell (c, .inl 1)) () 4)) ∗ cred (tallyAt (kcell (c, .inl 0)) () 4)) := by
  rw [show (owed₀ : Dev nD → CellTallies nD τ sig Unit)
      = fun d => ((∑ t ∈ Finset.univ.filter (fun t => 0 ≤ num t), (fun (t : Xf) d => pays d t) t d) + pays4 1 d) + pays4 0 d from rfl,
    Pipeline.launchCred_add, Pipeline.launchCred_add, Pipeline.launchCred_sum,
    Finset.filter_true_of_mem fun t _ => Nat.zero_le (num t)]
  refine BIClass.sep_mono (BIClass.sep_mono (bigSep_mono fun t _ => ?_) (cred_bar 1 c)) (cred_bar 0 c)
  exact Pipeline.launchCred_tallyAt (.dma (rsem t)) (tgtPerm t) (tgtPerm t).symm (tgtPerm t).apply_symm_apply (tgtPerm t).symm_apply_apply () (amt t) c

end Cert.KProof
-- ==== Proof.Run.lean ====
/-
# `Run`: the run of the program on the mesh

From any memory with zero counters, at any float values: every weakly fair execution of the program ends, with each
device's result at the value the protocol computes, the four arguments as they were and every semaphore at zero.
-/
module

public import proofs.«01_k».proof.Proof.Deal
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch -/

theorem rounds_eq (c : Dev nD) : (rounds c : sProp 𝕄)
    = iprop((atPos ER (kcell (c, .inl 0)) 0 ∅ 0 ∗ atPos ER (kcell (c, .inl 1)) 0 ∅ 0)
      ∗ (bigSep Finset.univ fun t : Xf => atPos ER (scell c t) 0 ∅ 0) ∗ bigSep Finset.univ fun t : Xf => atPos ER (rcell c t) 0 ∅ 0) := by
  unfold rounds
  rw [by_cell, bigSep_sep']
  rfl

/-- The linear part of what a device starts with. -/
theorem share_out (c : Dev nD) :
    iprop(rounds c ∗ pay c ∗ ((bigSep Finset.univ fun t : Xf => cred (tallyAt (rcell c t) () (amt t))) ∗ cred (tallyAt (kcell (c, .inl 1)) () 4)) ∗ cred (tallyAt (kcell (c, .inl 0)) () 4))
      = (iprop(bar c 0 ∗ bar c 1 ∗ toks c) : sProp 𝕄) := by
  unfold bar toks pay fresh
  rw [rounds_eq]
  simp only [bigSep_sep']
  ac_rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold start G' known
  rw [← share_out]
  iintro ⟨-, Hlev, Hcr, -, ⟨%K, HI, HR⟩, Hat, Hp⟩
  ihave Hc := (creds (F := F) c) $$ Hcr
  imodintro
  isplitl
  · isplitl [HI HR Hlev]
    · iexists K
      unfold recs
      isplitl [HI]; · iexact HI
      isplitl [HR]; · iexact HR
      iexact Hlev
    isplitl [Hat]; · iexact Hat
    isplitl [Hp]; · iexact Hp
    iexact Hc
  · iempintro

theorem scratch_eq (c : Dev nD) :
    (Pipeline.scopedRest (Ix := Unit) (Name := ℕ) (U := UU) (Lvl := ℕ) (Val := Elt F) spec0 c : sProp 𝕄) = scratch c := by
  rw [scopedRest0_eq]
  unfold scratch raw4
  ac_rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show cfg0.spec = spec0 from rfl, scratch_eq]
  unfold Φ₁
  rw [← sems0_eq]
  iintro ⟨Hr, Ho, Hu⟩
  isplitl [Hu]; · iexact Hu
  isplitl [Ho]; · iexact Ho
  iexact Hr

theorem lv_stage (c : Dev nD) (q : DmaSem sig) (hq : q.val < 5) : lv ((c : Thread nD τ), .dma q) () = 0 := by
  unfold lv
  rw [show dec (.dma q) = none from dif_neg fun ⟨k, hk⟩ => csem_ne_stage k q hq hk]
  rfl

theorem waits (c : Dev nD) : (levAts L lv : sProp 𝕄) ⊢ Pipeline.cellsWaits cfgs (dats m) () 0 c :=
  Pipeline.cellsWaits_intro cfgs (dats m) () 0 c fun w s t =>
    mayWait_below c _ 0 (le_of_eq (lv_stage c _ (stage_no w s))) _ (by
      rcases t with ⟨_ | _, ht⟩
      · intro g u h; obtain ⟨c', k, h1, h2⟩ := owed₀_pos (c := c) h; exact ⟨c', k, h1, h2⟩
      · intro g u h; exact absurd h (Nat.lt_irrefl 0))

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- The memory the run starts from. -/
def start₀ : MemSt nD τ sig (Elt F) := ⟨m, fun _ => 0, ρ⟩

set_option maxRecDepth 8000 in
theorem run_windows : θ_run defs (onTc (τ := τ) (main (F := F))) (start₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_out (c : Dev nD) : finalA m c (4 : Fin 5) = outAt (args m) c := by
  unfold finalA
  rw [show cfg0.N = ((0 : Fin 1) : Fin cfg0.N).val + 1 from rfl, (dats m 0 c).arrAt_succ (4 : Fin 5) (0 : Fin 1)]
  rw [show (cfg0.win 4).flush (0 : Fin 1) = true from by decide, if_pos rfl]
  exact (read_out (F := F) _).symm.trans (View.read_write_univ _ _)

/-- The run, read at the program's own buffers. -/
theorem run_main : θ_run defs (onTc (τ := τ) (main (F := F))) (start₀ m ρ) (fun r =>
    (∀ c : Dev nD, r.2.mem ((c : Thread nD τ).loc main_v1) = outAt (args m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    ⟨(h.1 c (4 : Fin 5)).trans (finalA_out m c),
     (h.1 c (0 : Fin 5)).trans ((dats (F := F) m 0 c).arrAt_in (0 : Fin 5) rfl _),
     (h.1 c (1 : Fin 5)).trans ((dats (F := F) m 0 c).arrAt_in (1 : Fin 5) rfl _),
     (h.1 c (2 : Fin 5)).trans ((dats (F := F) m 0 c).arrAt_in (2 : Fin 5) rfl _),
     (h.1 c (3 : Fin 5)).trans ((dats (F := F) m 0 c).arrAt_in (3 : Fin 5) rfl _)⟩, h.2⟩) (run_windows m ρ)

end Cert.KProof
-- ==== Proof.Frames.lean ====
/-
# `Frames`: the three frames

The kernel's, as printed and idealized, from the one run at any float values; the reference's from its own run.
-/
module

public import proofs.«01_k».proof.Defs
public import proofs.«01_k».proof.Proof.Run
public import proofs.«01_k».proof.Proof.Gen.Kernel
public import proofs.«01_k».proof.Proof.Gen.ReferenceIdeal
public import Idealize.ShloMosaic.PureOps.BitExact
public import proofs.«01_k».proof.Proof.Gen.ReferenceIdeal.Run

@[expose] public section

noncomputable section

namespace Cert.KProof

open Idealize.ShloMosaic Idealize.SL.Sem

theorem frame_ideal : Cert.quiescent_KernelIdeal := fun m ρ _ =>
  (θ_run Cert.KernelIdeal.defs _ _).mono (fun _ h => ⟨fun c => (h.1 c).2, h.2⟩) (run_main (F := Ideal) m ρ)

/-- The idealized kernel's text on bit patterns. -/
theorem frame_text (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main (F := Bits) m ρ)

set_option maxRecDepth 100000 in
set_option maxHeartbeats 0 in
/-- The printed body at a grid point is the idealized one. -/
theorem printed_at (t s) : Cert.Kernel.defs₀ (F := Bits) .tc 0 (t, s) = Cert.KernelIdeal.defs₀ (F := Bits) .tc 0 (t, s) := rfl

/-- The printed body table is the idealized one. -/
theorem printed_bodies : Cert.Kernel.defs₀ (F := Bits) = Cert.KernelIdeal.defs₀ (F := Bits) := by
  funext k l a
  match k, l, a with
  | .tc, 0, (t, s) => exact printed_at t s
  | .scScalar _, l, a => rfl
  | .scVector _ _, l, a => rfl

/-- So are the tables with the pipelines. -/
theorem printed_defs : Cert.Kernel.defs (F := Bits) = Cert.KernelIdeal.defs (F := Bits) :=
  congrArg (Pipeline.defs (Cert.KernelIdeal.pcfgs (F := Bits))) printed_bodies

/-- The printed kernel's run is the idealized text's. -/
theorem frame_printed : Cert.quiescent_Kernel := fun m ρ _ => by
  rw [printed_defs]
  exact frame_text m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.Sums.lean ====
/-
# `Sums`: the three phases add up the 32 shares

On the extended reals a cast changes nothing and a sum may be taken in any order: every block of every device's result
is the sum of all devices' shares of that block.
-/
module

public import proofs.«01_k».proof.Proof.Values
public import Idealize.ShloMosaic.PureOps.Ideal

@[expose] public section

noncomputable section

namespace Cert.KProof

open Cert.KernelIdeal Cert.KernelIdeal.Gen
open Idealize.ShloMosaic Idealize.ShloMosaic.ValueIdx
open scoped BigOperators

/-! ## Who added in what -/

/-- The devices whose shares are in device `c`'s block after `s` rounds of phase one. -/
def ringL : ℕ → Dev nD → List (Dev nD)
  | 0, c => [c]
  | s + 1, c => c :: ringL s (left c)

/-- The devices of the column whose blocks are in device `c`'s sub-block `u` after `t` rounds of phase two. -/
def planeL : ℕ → Dev nD → Fin 4 → List (Dev nD)
  | 0, c, _ => [c]
  | t + 1, c, u =>
    if u = subR c t then
      if t < 3 then planeL t c u ++ planeL t (down c) u else planeL t (down c) u
    else planeL t c u

theorem planeL_all : ∀ (c : Dev nD) (u : Fin 4), ((planeL 6 c u).flatMap (ringL 7)).Perm (List.finRange 32) := by decide +kernel
theorem planeL_row : ∀ (c : Dev nD) (u : Fin 4), ∀ e ∈ planeL 6 c u, rowQ e 7 = rowQ c 7 := by decide +kernel

variable (A : Args Ideal)

theorem rowQ_left (c : Dev nD) (s : ℕ) (hs : s < 8) : rowQ (left c) s = rowQ c (s + 1) := by
  have := lt32 c
  refine Fin.ext ?_
  simp only [rowQ, left]
  omega

theorem acc1_sum (s : ℕ) (hs : s < 8) (c : Dev nD) (h : Fin 4) (y : S128x256.Idx) :
    acc1 A s c h y = ((ringL s c).map fun e => quarter (share A e (rowQ c s)) h y).sum := by
  induction s generalizing c with
  | zero => exact (List.sum_singleton (x := quarter (share A c (rowQ c 0)) h y)).symm
  | succ s ih =>
    refine (congrArg (fun v : EReal => quarter (share A c (rowQ c (s + 1))) h y + v) (ih (by omega) (left c))).trans ?_
    rw [rowQ_left c s (by omega)]
    exact (List.sum_cons).symm

theorem fin1_sum (c : Dev nD) (y : S128x1024.Idx) : fin1 A c y = ((ringL 7 c).map fun e => share A e (rowQ c 7) y).sum := by
  have hy : (y 1).val < 1024 := (y 1).isLt
  show acc1 A 7 c _ _ = _
  rw [acc1_sum A 7 (by decide)]
  refine congrArg List.sum (List.map_congr_left fun e _ => ?_)
  rw [quarter_at]
  refine congrArg (share A e (rowQ c 7)) (funext fun a => Fin.ext ?_)
  fin_cases a
  · rfl
  · show 256 * ((y 1).val / 256) + (y 1).val % 256 = (y 1).val
    omega

theorem cur_sum (t : ℕ) (c : Dev nD) (u : Fin 4) (h : Fin 2) (y : S32x512.Idx) :
    cur A t c u h y = ((planeL t c u).map fun e => sub (fin1 A e) u h y).sum := by
  induction t generalizing c with
  | zero => exact (List.sum_singleton (x := sub (fin1 A c) u h y)).symm
  | succ t ih =>
    unfold cur planeL
    split_ifs
    · rw [List.map_append, List.sum_append, ← ih c, ← ih (down c)]; rfl
    · rw [← ih (down c)]; rfl
    · exact ih c

theorem sum_lists {α : Type} (l : List α) (g : α → List α) (f : α → EReal) :
    (l.map fun e => ((g e).map f).sum).sum = ((l.flatMap g).map f).sum := by
  induction l with
  | nil => rfl
  | cons e l ih => rw [List.map_cons, List.sum_cons, ih, List.flatMap_cons, List.map_append, List.sum_append]

/-- After phase two a device's block is the sum of all shares of it. -/
theorem fin2_sum (c : Dev nD) (y : S128x1024.Idx) : fin2 A c y = ∑ e : Fin 32, share A e (rowQ c 7) y := by
  show cur A 6 c ⟨(y 0).val / 32, _⟩ ⟨(y 1).val / 512, _⟩ (ix2 _ _) = _
  rw [cur_sum]
  refine Eq.trans (congrArg List.sum (List.map_congr_left (g := fun e => ((ringL 7 e).map fun e' => share A e' (rowQ c 7) y).sum) fun e he => ?_)) ?_
  · rw [sub_at, fin1_sum, planeL_row _ _ e he]
    refine congrArg List.sum (List.map_congr_left fun e' _ => congrArg (share A e' (rowQ c 7)) (funext fun a => Fin.ext ?_))
    fin_cases a
    · show 32 * ((y 0).val / 32) + (y 0).val % 32 = (y 0).val
      omega
    · show 512 * ((y 1).val / 512) + (y 1).val % 512 = (y 1).val
      omega
  · rw [sum_lists, ((planeL_all c _).map _).sum_eq]
    rw [← List.ofFn_id, List.map_ofFn, List.sum_ofFn]
    rfl

theorem pass3_eq (s : ℕ) (c : Dev nD) : pass3 A s c = fin2 A (left^[s] c) := by
  induction s generalizing c with
  | zero => rfl
  | succ s ih => exact ih (left c)

theorem round_row : ∀ (c : Dev nD) (q : Fin 8), rowQ (left^[(c.val + 64 - q.val) % 8 + 1] c) 7 = q := by decide +kernel

/-- Every block of every device's result is the sum of all shares of it. -/
theorem outBlk_sum (c : Dev nD) (q : Fin 8) (y : S128x1024.Idx) : outBlk A c q y = ∑ e : Fin 32, share A e q y := by
  unfold outBlk
  split_ifs with h
  · rw [fin2_sum, h]
  · refine (congrFun (pass3_eq A _ c) y).trans ?_
    rw [fin2_sum, round_row]

theorem outAt_sum (c : Dev nD) (q : Fin 8) (i : Fin 128) (j : Fin 1024) :
    outAt A c (ix2 (⟨128 * q.val + i.val, by omega⟩ : Fin 1024) j) = ∑ e : Fin 32, share A e q (ix2 i j) := by
  rw [← outBlk_sum A c]
  have hq : (128 * q.val + i.val) / 128 = q.val := by omega
  have hi : (128 * q.val + i.val) % 128 = i.val := by omega
  show outBlk A c ⟨(128 * q.val + i.val) / 128, _⟩ (ix2 ⟨(128 * q.val + i.val) % 128, _⟩ j) = _
  exact congr (congrArg (outBlk A c) (Fin.ext hq)) (congrArg (fun k : Fin 128 => ix2 k j) (Fin.ext hi))

end Cert.KProof
-- ==== Proof.Product.lean ====
/-
# `Product`: the share as a sum, and the plain product cut by devices

Entry by entry on the extended reals: a device's share is its 2048 terms of the reference's sum over the 65536 inner
positions, and the devices' terms together are all of them.
-/
module

public import proofs.«01_k».proof.Proof.Sums
public import Idealize.ShloMosaic.Lib.MatmulPlain
public import Idealize.ShloMosaic.Lib.StackMember
public import Idealize.ShloMosaic.Lib.IdealHost
public import Idealize.ShloMosaic.Lib.Layout

@[expose] public section

noncomputable section

namespace Cert.KProof

open Cert.KernelIdeal Cert.KernelIdeal.Gen
open Idealize.ShloMosaic Idealize.ShloMosaic.ValueIdx
open scoped BigOperators

/-- The gate: `g · u / (1 + exp (-u))`. -/
def gate (g u : EReal) : EReal := g * Ideal.div u (1 + Ideal.exp (-u))

/-- The gate with the constants as the programs write them. -/
theorem gate_words (g u : EReal) :
    gate g u = g * Ideal.div u (Ideal.ofBits .f32 0x3F800000#32 + Ideal.exp (Ideal.ofBits .f32 0x00000000#32 - u)) := by
  rw [Ideal.ofBits_one_f32, Ideal.ofBits_zero_f32, zero_sub]; rfl

/-- One term of the down projection: row `r` of `x` through column `k` of the two weights, times entry `(k, j)` of the third. -/
def term {n : ℕ} (x : FVec Ideal S1024x1024 .f32) (g u : FVec Ideal ⟨2, ![1024, n]⟩ .f32) (d : FVec Ideal ⟨2, ![n, 1024]⟩ .f32)
    (r j : Fin 1024) (k : Fin n) : EReal :=
  gate (∑ l : Fin 1024, x (ix2 r l) * g (ix2 l k)) (∑ l : Fin 1024, x (ix2 r l) * u (ix2 l k)) * d (ix2 k j)

/-- A device's share of block `q`, entry by entry. -/
theorem share_at (A : Args Ideal) (c : Dev nD) (q : Fin 8) (i : Fin 128) (j : Fin 1024) :
    share A c q (ix2 i j) = ∑ k : Fin 2048, term (A.x c) (A.g c) (A.u c) (A.d c) ⟨128 * q.val + i.val, by omega⟩ j k := by
  have up : ∀ (w : FVec Ideal S1024x2048 .bf16) (k : Fin 2048),
      FloatOps.matmul (DotDims.plain 128 1024 2048) none (blk (x16 A c) q) w (constant S128x2048 .f32 0x00000000#32) (ix2 i k)
        = ∑ l : Fin 1024, A.x c (ix2 (⟨128 * q.val + i.val, by omega⟩ : Fin 1024) l) * w (ix2 l k) := fun w k => by
    rw [Ideal.matmul_plain_apply]
    rw [show (constant S128x2048 .f32 0x00000000#32 : FVec Ideal S128x2048 .f32) (ix2 i k) = 0 from Ideal.ofBits_zero_f32, zero_add]
    exact Finset.sum_congr rfl fun l _ => congrArg (· * w (ix2 l k)) (blk_at (x16 A c) q i l)
  refine (Ideal.matmul_plain_apply (M := 128) (K := 2048) (N := 1024) none _ (d16 A c) (constant S128x1024 .f32 0x00000000#32) i j).trans ?_
  rw [show (constant S128x1024 .f32 0x00000000#32 : FVec Ideal S128x1024 .f32) (ix2 i j) = 0 from Ideal.ofBits_zero_f32, zero_add]
  refine Finset.sum_congr rfl fun k _ => congrArg (· * A.d c (ix2 k j)) ?_
  refine Eq.trans ?_ (congr (congrArg gate (up (g16 A c) k)) (up (u16 A c) k))
  rw [gate_words]
  rfl

/-- The plain product, entry by entry. -/
theorem plain_at (x : FVec Ideal S1024x1024 .f32) (g u : FVec Ideal ⟨2, ![1024, 65536]⟩ .f32) (d : FVec Ideal ⟨2, ![65536, 1024]⟩ .f32)
    (b : (⟨0, ![]⟩ : Shape).BroadcastsInDim ⟨2, ![1024, 65536]⟩ ![]) (r j : Fin 1024) :
    Host.dotGeneral (DotDims.plain 1024 65536 1024) none (mulf (Host.dotGeneral (DotDims.plain 1024 1024 65536) none x g)
      (Host.divf (Host.dotGeneral (DotDims.plain 1024 1024 65536) none x u)
        (addf (broadcastInDim ⟨2, ![1024, 65536]⟩ ![] b (constant ⟨0, ![]⟩ .f32 0x3F800000#32 : FVec Ideal ⟨0, ![]⟩ .f32))
          (Host.exp (Host.negf (Host.dotGeneral (DotDims.plain 1024 1024 65536) none x u)))))) d (ix2 r j)
      = ∑ k : Fin 65536, term x g u d r j k := by
  rw [StackMember.dotGeneral_plain_apply]
  refine Finset.sum_congr rfl fun k _ => congrArg (· * d (ix2 k j)) ?_
  unfold gate
  rw [← StackMember.dotGeneral_plain_apply none x g r k, ← StackMember.dotGeneral_plain_apply none x u r k, ← Ideal.ofBits_one_f32]
  rfl

/-- Inner position `k` of device `e` among all of them. -/
def pos (e : Fin 32) (k : Fin 2048) : Fin 65536 := ⟨2048 * e.val + k.val, by omega⟩

theorem sum_pos (f : Fin 65536 → EReal) : ∑ K : Fin 65536, f K = ∑ e : Fin 32, ∑ k : Fin 2048, f (pos e k) := by
  rw [← Equiv.sum_comp (finProdFinEquiv (m := 32) (n := 2048)) f, Fintype.sum_prod_type]
  refine Finset.sum_congr rfl fun e _ => Finset.sum_congr rfl fun k _ => congrArg f (Fin.ext ?_)
  exact Nat.add_comm _ _

theorem cols_at (v : FVec Ideal ⟨2, ![1024, 65536]⟩ .f32) (e : Fin 32) (l : Fin 1024) (k : Fin 2048) :
    Layout.block ⟨2, ![1024, 2048]⟩ ⟨2, ![1024, 65536]⟩ 1 32 e v (by decide) (ix2 l k) = v (ix2 l (pos e k)) := by
  refine congrArg v (funext fun a => Fin.ext ?_)
  fin_cases a
  · rfl
  · show e.val * 2048 + k.val = 2048 * e.val + k.val
    omega
theorem rows_at (v : FVec Ideal ⟨2, ![65536, 1024]⟩ .f32) (e : Fin 32) (k : Fin 2048) (j : Fin 1024) :
    Layout.block ⟨2, ![2048, 1024]⟩ ⟨2, ![65536, 1024]⟩ 0 32 e v (by decide) (ix2 k j) = v (ix2 (pos e k) j) := by
  refine congrArg v (funext fun a => Fin.ext ?_)
  fin_cases a
  · show e.val * 2048 + k.val = 2048 * e.val + k.val
    omega
  · rfl

/-- Entry `(r, j)` of every device's result when the devices hold the blocks of whole arrays. -/
theorem outAt_plain (A : Args Ideal) (x : FVec Ideal S1024x1024 .f32) (g u : FVec Ideal ⟨2, ![1024, 65536]⟩ .f32) (d : FVec Ideal ⟨2, ![65536, 1024]⟩ .f32)
    (hx : ∀ e, A.x e = x) (hg : ∀ e : Fin 32, A.g e = Layout.block ⟨2, ![1024, 2048]⟩ ⟨2, ![1024, 65536]⟩ 1 32 e g (by decide))
    (hu : ∀ e : Fin 32, A.u e = Layout.block ⟨2, ![1024, 2048]⟩ ⟨2, ![1024, 65536]⟩ 1 32 e u (by decide))
    (hd : ∀ e : Fin 32, A.d e = Layout.block ⟨2, ![2048, 1024]⟩ ⟨2, ![65536, 1024]⟩ 0 32 e d (by decide))
    (c : Dev nD) (r j : Fin 1024) : outAt A c (ix2 r j) = ∑ k : Fin 65536, term x g u d r j k := by
  obtain ⟨q, i, rfl⟩ : ∃ (q : Fin 8) (i : Fin 128), r = ⟨128 * q.val + i.val, by omega⟩ :=
    ⟨⟨r.val / 128, by omega⟩, ⟨r.val % 128, by omega⟩, Fin.ext (by show r.val = 128 * (r.val / 128) + r.val % 128; omega)⟩
  rw [outAt_sum, sum_pos]
  refine Finset.sum_congr rfl fun e _ => (share_at A e q i j).trans (Finset.sum_congr rfl fun k _ => ?_)
  unfold term
  rw [hx, hg, hu, hd, rows_at]
  simp only [cols_at]

end Cert.KProof
-- ==== Proof.Value.lean ====
/-
# `Value`: the kernel computes the reference's function
-/
module

public import proofs.«01_k».proof.Proof.Frames
public import proofs.«01_k».proof.Proof.Product

@[expose] public section

noncomputable section

namespace Cert.KProof

open Idealize.ShloMosaic Idealize.ShloMosaic.ValueIdx Idealize.SL.Sem

/-- Every device ends with the plain product of the whole arrays. -/
theorem value : Cert.algebraic_KernelIdeal_ReferenceIdeal := fun m g m' g' _ h => by
  have hk := run_main (F := Ideal) m g
  have hr := Cert.ReferenceIdeal.Value.run (F := Ideal) m' g'
  refine ⟨_, (θ_run Cert.KernelIdeal.defs _ _).mono (fun r hr' c => ⟨(hr'.1 c).1.trans ?_, (hr'.1 c).2⟩) hk,
    (θ_run Cert.ReferenceIdeal.defs _ _).mono (fun r hr' => hr' 0) hr⟩
  funext y
  obtain ⟨i, j, rfl⟩ : ∃ i j : Fin 1024, y = ix2 i j := ⟨y 0, y 1, eq_ix2 y⟩
  let at0 (b : Ref Cert.ReferenceIdeal.sig .tc) := m' (((0 : Dev Cert.ReferenceIdeal.nD).tc : Thread Cert.ReferenceIdeal.nD Cert.ReferenceIdeal.τ).loc b)
  exact (outAt_plain (args m) (at0 Cert.ReferenceIdeal.main_arg0) (at0 Cert.ReferenceIdeal.main_arg1) (at0 Cert.ReferenceIdeal.main_arg2) (at0 Cert.ReferenceIdeal.main_arg3)
    (fun e => (h e).1) (fun e => (h e).2.1) (fun e => (h e).2.2.1) (fun e => (h e).2.2.2) c i j).trans (plain_at _ _ _ _ _ i j).symm

end Cert.KProof
-- ==== Proof.lean ====
/- `Cert.Claim`: the three frames (`Proof/Frames.lean`) and the value (`Proof/Value.lean`). -/
module

public import proofs.«01_k».proof.Defs
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.KProof.frame_printed, Cert.KProof.frame_ideal, Cert.KProof.frame_reference, trivial, Cert.KProof.value⟩

end Cert.Proof

end
